-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_unclipped [hKernelIdeal : Cert.KernelIdeal.Facts] [hClippedIdeal : Cert.ClippedIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 128]⟩ : Shape).Idx, (Layout.block ⟨2, ![2048, 128]⟩ ⟨2, ![2048, 2048]⟩ 1 16 c ((Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![2048, 128]⟩ : Shape).Idx → _) i = 1#1 → r.2.mem ((c.tc : Thread Cert.KernelIdeal.nD Cert.KernelIdeal.τ).loc Cert.KernelIdeal.main_v1) i = (Layout.block ⟨2, ![2048, 128]⟩ ⟨2, ![2048, 2048]⟩ 1 16 c v0 : (⟨2, ![2048, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![2048, 2048]⟩ : Shape).Idx, (Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v7) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_unclipped (hKernelIdeal := hKernelIdeal) (hClippedIdeal := hClippedIdeal) (hOn_unclipped := hOn_unclipped)
-- ==== On_unclipped.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S128x2048 : Shape := ⟨2, ![128, 2048]⟩
abbrev S2048x2048 : Shape := ⟨2, ![2048, 2048]⟩
abbrev S2048x128 : Shape := ⟨2, ![2048, 128]⟩
abbrev S4x2048x512 : Shape := ⟨3, ![4, 2048, 512]⟩
abbrev S4x128x512 : Shape := ⟨3, ![4, 128, 512]⟩
abbrev S16 : Shape := ⟨1, ![16]⟩
abbrev S_ : Shape := ⟨0, ![]⟩
abbrev S1 : Shape := ⟨1, ![1]⟩
abbrev S1x2048x128 : Shape := ⟨3, ![1, 2048, 128]⟩
abbrev S1x2048x512 : Shape := ⟨3, ![1, 2048, 512]⟩
abbrev S2048x512 : Shape := ⟨2, ![2048, 512]⟩
abbrev S128x512 : Shape := ⟨2, ![128, 512]⟩
abbrev S1x128x512 : Shape := ⟨3, ![1, 128, 512]⟩
abbrev S128x128 : Shape := ⟨2, ![128, 128]⟩
abbrev S1x128x128 : Shape := ⟨3, ![1, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .bf16⟩
  | .local _ .vmem, ⟨0, _⟩ => ⟨S128x2048, .f32⟩
  | .local _ .vmem, ⟨1, _⟩ => ⟨S2048x128, .bf16⟩
  | .local _ .vmem, ⟨2, _⟩ => ⟨S4x2048x512, .f32⟩
  | .local _ .vmem, ⟨3, _⟩ => ⟨S4x128x512, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_690 : BitVec 32 := 0#32
  let c0_i32_688 : BitVec 32 := 0#32
  let c1_i32_689 : BitVec 32 := 1#32
  let v708 : BitVec 32 := Scalar.muli c0_i32_688 c1_i32_689
  let v709 : BitVec 32 := Scalar.addi c0_i32_690 v708
  v709.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_690 : BitVec 32 := 0#32
  let c1_i32_688 : BitVec 32 := 1#32
  let c1_i32_689 : BitVec 32 := 1#32
  let v708 : BitVec 32 := Scalar.muli c1_i32_688 c1_i32_689
  let v709 : BitVec 32 := Scalar.addi c0_i32_690 v708
  v709.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_690 : BitVec 32 := 0#32
  let c2_i32_688 : BitVec 32 := 2#32
  let c1_i32_689 : BitVec 32 := 1#32
  let v708 : BitVec 32 := Scalar.muli c2_i32_688 c1_i32_689
  let v709 : BitVec 32 := Scalar.addi c0_i32_690 v708
  v709.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_690 : BitVec 32 := 0#32
  let c3_i32_688 : BitVec 32 := 3#32
  let c1_i32_689 : BitVec 32 := 1#32
  let v708 : BitVec 32 := Scalar.muli c3_i32_688 c1_i32_689
  let v709 : BitVec 32 := Scalar.addi c0_i32_690 v708
  v709.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_690 : BitVec 32 := 0#32
  let c4_i32_688 : BitVec 32 := 4#32
  let c1_i32_689 : BitVec 32 := 1#32
  let v708 : BitVec 32 := Scalar.muli c4_i32_688 c1_i32_689
  let v709 : BitVec 32 := Scalar.addi c0_i32_690 v708
  v709.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_690 : BitVec 32 := 0#32
  let c5_i32_688 : BitVec 32 := 5#32
  let c1_i32_689 : BitVec 32 := 1#32
  let v708 : BitVec 32 := Scalar.muli c5_i32_688 c1_i32_689
  let v709 : BitVec 32 := Scalar.addi c0_i32_690 v708
  v709.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_690 : BitVec 32 := 0#32
  let c6_i32_688 : BitVec 32 := 6#32
  let c1_i32_689 : BitVec 32 := 1#32
  let v708 : BitVec 32 := Scalar.muli c6_i32_688 c1_i32_689
  let v709 : BitVec 32 := Scalar.addi c0_i32_690 v708
  v709.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_690 : BitVec 32 := 0#32
  let c7_i32_688 : BitVec 32 := 7#32
  let c1_i32_689 : BitVec 32 := 1#32
  let v708 : BitVec 32 := Scalar.muli c7_i32_688 c1_i32_689
  let v709 : BitVec 32 := Scalar.addi c0_i32_690 v708
  v709.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_690 : BitVec 32 := 0#32
  let c8_i32_688 : BitVec 32 := 8#32
  let c1_i32_689 : BitVec 32 := 1#32
  let v708 : BitVec 32 := Scalar.muli c8_i32_688 c1_i32_689
  let v709 : BitVec 32 := Scalar.addi c0_i32_690 v708
  v709.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_690 : BitVec 32 := 0#32
  let c9_i32_688 : BitVec 32 := 9#32
  let c1_i32_689 : BitVec 32 := 1#32
  let v708 : BitVec 32 := Scalar.muli c9_i32_688 c1_i32_689
  let v709 : BitVec 32 := Scalar.addi c0_i32_690 v708
  v709.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_690 : BitVec 32 := 0#32
  let c10_i32_688 : BitVec 32 := 10#32
  let c1_i32_689 : BitVec 32 := 1#32
  let v708 : BitVec 32 := Scalar.muli c10_i32_688 c1_i32_689
  let v709 : BitVec 32 := Scalar.addi c0_i32_690 v708
  v709.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_690 : BitVec 32 := 0#32
  let c11_i32_688 : BitVec 32 := 11#32
  let c1_i32_689 : BitVec 32 := 1#32
  let v708 : BitVec 32 := Scalar.muli c11_i32_688 c1_i32_689
  let v709 : BitVec 32 := Scalar.addi c0_i32_690 v708
  v709.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_690 : BitVec 32 := 0#32
  let c12_i32_688 : BitVec 32 := 12#32
  let c1_i32_689 : BitVec 32 := 1#32
  let v708 : BitVec 32 := Scalar.muli c12_i32_688 c1_i32_689
  let v709 : BitVec 32 := Scalar.addi c0_i32_690 v708
  v709.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_690 : BitVec 32 := 0#32
  let c13_i32_688 : BitVec 32 := 13#32
  let c1_i32_689 : BitVec 32 := 1#32
  let v708 : BitVec 32 := Scalar.muli c13_i32_688 c1_i32_689
  let v709 : BitVec 32 := Scalar.addi c0_i32_690 v708
  v709.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_690 : BitVec 32 := 0#32
  let c14_i32_688 : BitVec 32 := 14#32
  let c1_i32_689 : BitVec 32 := 1#32
  let v708 : BitVec 32 := Scalar.muli c14_i32_688 c1_i32_689
  let v709 : BitVec 32 := Scalar.addi c0_i32_690 v708
  v709.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_690 : BitVec 32 := 0#32
  let c15_i32_688 : BitVec 32 := 15#32
  let c1_i32_689 : BitVec 32 := 1#32
  let v708 : BitVec 32 := Scalar.muli c15_i32_688 c1_i32_689
  let v709 : BitVec 32 := Scalar.addi c0_i32_690 v708
  v709.toNat
def k0_off1 (d0 : Dev nD) (c1_i32_18 : BitVec 32) : Fin 2 → Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v52 : BitVec 32 := Scalar.addi v2 c1_i32_18
  let c16_i32_19 : BitVec 32 := 16#32
  let v53 : BitVec 32 := Scalar.remsi v52 c16_i32_19
  let c128_i32 : BitVec 32 := 128#32
  let v54 : BitVec 32 := Scalar.muli v53 c128_i32
  ![0, v54.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_172 : BitVec 32 := 128#32
  let v213 : BitVec 32 := Scalar.muli v2 c128_i32_172
  let c0_i32_178 : BitVec 32 := 0#32
  ![v213.toNat, 0]
def k0_dev17 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_170 : BitVec 32 := 1#32
  let v211 : BitVec 32 := Scalar.addi v2 c1_i32_170
  let c16_i32_171 : BitVec 32 := 16#32
  let v212 : BitVec 32 := Scalar.remsi v211 c16_i32_171
  let c1_i32_176 : BitVec 32 := 1#32
  let v214 : BitVec 32 := Scalar.muli v212 c1_i32_176
  let v215 : BitVec 32 := Scalar.addi c0_i32_177 v214
  v215.toNat
def k0_dev18 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_181 : BitVec 32 := 2#32
  let v223 : BitVec 32 := Scalar.addi v2 c2_i32_181
  let c16_i32_182 : BitVec 32 := 16#32
  let v224 : BitVec 32 := Scalar.remsi v223 c16_i32_182
  let c1_i32_187 : BitVec 32 := 1#32
  let v226 : BitVec 32 := Scalar.muli v224 c1_i32_187
  let v227 : BitVec 32 := Scalar.addi c0_i32_188 v226
  v227.toNat
def k0_dev19 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_192 : BitVec 32 := 3#32
  let v235 : BitVec 32 := Scalar.addi v2 c3_i32_192
  let c16_i32_193 : BitVec 32 := 16#32
  let v236 : BitVec 32 := Scalar.remsi v235 c16_i32_193
  let c1_i32_198 : BitVec 32 := 1#32
  let v238 : BitVec 32 := Scalar.muli v236 c1_i32_198
  let v239 : BitVec 32 := Scalar.addi c0_i32_199 v238
  v239.toNat
def k0_dev20 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_203 : BitVec 32 := 4#32
  let v247 : BitVec 32 := Scalar.addi v2 c4_i32_203
  let c16_i32_204 : BitVec 32 := 16#32
  let v248 : BitVec 32 := Scalar.remsi v247 c16_i32_204
  let c1_i32_209 : BitVec 32 := 1#32
  let v250 : BitVec 32 := Scalar.muli v248 c1_i32_209
  let v251 : BitVec 32 := Scalar.addi c0_i32_210 v250
  v251.toNat
def k0_dev21 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_240 : BitVec 32 := 5#32
  let v288 : BitVec 32 := Scalar.addi v2 c5_i32_240
  let c16_i32_241 : BitVec 32 := 16#32
  let v289 : BitVec 32 := Scalar.remsi v288 c16_i32_241
  let c1_i32_246 : BitVec 32 := 1#32
  let v291 : BitVec 32 := Scalar.muli v289 c1_i32_246
  let v292 : BitVec 32 := Scalar.addi c0_i32_247 v291
  v292.toNat
def k0_dev22 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_251 : BitVec 32 := 6#32
  let v300 : BitVec 32 := Scalar.addi v2 c6_i32_251
  let c16_i32_252 : BitVec 32 := 16#32
  let v301 : BitVec 32 := Scalar.remsi v300 c16_i32_252
  let c1_i32_257 : BitVec 32 := 1#32
  let v303 : BitVec 32 := Scalar.muli v301 c1_i32_257
  let v304 : BitVec 32 := Scalar.addi c0_i32_258 v303
  v304.toNat
def k0_dev23 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_262 : BitVec 32 := 7#32
  let v312 : BitVec 32 := Scalar.addi v2 c7_i32_262
  let c16_i32_263 : BitVec 32 := 16#32
  let v313 : BitVec 32 := Scalar.remsi v312 c16_i32_263
  let c1_i32_268 : BitVec 32 := 1#32
  let v315 : BitVec 32 := Scalar.muli v313 c1_i32_268
  let v316 : BitVec 32 := Scalar.addi c0_i32_269 v315
  v316.toNat
def k0_dev24 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_273 : BitVec 32 := 8#32
  let v324 : BitVec 32 := Scalar.addi v2 c8_i32_273
  let c16_i32_274 : BitVec 32 := 16#32
  let v325 : BitVec 32 := Scalar.remsi v324 c16_i32_274
  let c1_i32_279 : BitVec 32 := 1#32
  let v327 : BitVec 32 := Scalar.muli v325 c1_i32_279
  let v328 : BitVec 32 := Scalar.addi c0_i32_280 v327
  v328.toNat
def k0_dev25 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_310 : BitVec 32 := 9#32
  let v365 : BitVec 32 := Scalar.addi v2 c9_i32_310
  let c16_i32_311 : BitVec 32 := 16#32
  let v366 : BitVec 32 := Scalar.remsi v365 c16_i32_311
  let c1_i32_316 : BitVec 32 := 1#32
  let v368 : BitVec 32 := Scalar.muli v366 c1_i32_316
  let v369 : BitVec 32 := Scalar.addi c0_i32_317 v368
  v369.toNat
def k0_dev26 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_321 : BitVec 32 := 10#32
  let v377 : BitVec 32 := Scalar.addi v2 c10_i32_321
  let c16_i32_322 : BitVec 32 := 16#32
  let v378 : BitVec 32 := Scalar.remsi v377 c16_i32_322
  let c1_i32_327 : BitVec 32 := 1#32
  let v380 : BitVec 32 := Scalar.muli v378 c1_i32_327
  let v381 : BitVec 32 := Scalar.addi c0_i32_328 v380
  v381.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_332 : BitVec 32 := 11#32
  let v389 : BitVec 32 := Scalar.addi v2 c11_i32_332
  let c16_i32_333 : BitVec 32 := 16#32
  let v390 : BitVec 32 := Scalar.remsi v389 c16_i32_333
  let c1_i32_338 : BitVec 32 := 1#32
  let v392 : BitVec 32 := Scalar.muli v390 c1_i32_338
  let v393 : BitVec 32 := Scalar.addi c0_i32_339 v392
  v393.toNat
def k0_dev28 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_343 : BitVec 32 := 12#32
  let v401 : BitVec 32 := Scalar.addi v2 c12_i32_343
  let c16_i32_344 : BitVec 32 := 16#32
  let v402 : BitVec 32 := Scalar.remsi v401 c16_i32_344
  let c1_i32_349 : BitVec 32 := 1#32
  let v404 : BitVec 32 := Scalar.muli v402 c1_i32_349
  let v405 : BitVec 32 := Scalar.addi c0_i32_350 v404
  v405.toNat
def k0_dev29 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_380 : BitVec 32 := 13#32
  let v442 : BitVec 32 := Scalar.addi v2 c13_i32_380
  let c16_i32_381 : BitVec 32 := 16#32
  let v443 : BitVec 32 := Scalar.remsi v442 c16_i32_381
  let c1_i32_386 : BitVec 32 := 1#32
  let v445 : BitVec 32 := Scalar.muli v443 c1_i32_386
  let v446 : BitVec 32 := Scalar.addi c0_i32_387 v445
  v446.toNat
def k0_dev30 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_391 : BitVec 32 := 14#32
  let v454 : BitVec 32 := Scalar.addi v2 c14_i32_391
  let c16_i32_392 : BitVec 32 := 16#32
  let v455 : BitVec 32 := Scalar.remsi v454 c16_i32_392
  let c1_i32_397 : BitVec 32 := 1#32
  let v457 : BitVec 32 := Scalar.muli v455 c1_i32_397
  let v458 : BitVec 32 := Scalar.addi c0_i32_398 v457
  v458.toNat
def k0_dev31 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_402 : BitVec 32 := 15#32
  let v466 : BitVec 32 := Scalar.addi v2 c15_i32_402
  let c16_i32_403 : BitVec 32 := 16#32
  let v467 : BitVec 32 := Scalar.remsi v466 c16_i32_403
  let c1_i32_408 : BitVec 32 := 1#32
  let v469 : BitVec 32 := Scalar.muli v467 c1_i32_408
  let v470 : BitVec 32 := Scalar.addi c0_i32_409 v469
  v470.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_415 : BitVec 32 := 128#32
  let v480 : BitVec 32 := Scalar.muli v2 c128_i32_415
  let v481 : Index := Scalar.indexCast v480
  let c0_416 : Index := 0#32
  ![v481.toNat, 0]
def k0_off4 (d0 : Dev nD) (c15_i32_417 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v483 : BitVec 32 := Scalar.addi v2 c15_i32_417
  let c16_i32_418 : BitVec 32 := 16#32
  let v484 : BitVec 32 := Scalar.remsi v483 c16_i32_418
  let c128_i32_419 : BitVec 32 := 128#32
  let v485 : BitVec 32 := Scalar.muli v484 c128_i32_419
  let c0_i32_425 : BitVec 32 := 0#32
  ![v485.toNat, 0]
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Geometry.lean ====
/-
# The buffers the kernel moves data through, cut into sixteen pieces each

Every array of the kernel is cut into sixteen pieces of 128 rows or 128 columns:

* the column blocks of the device's copy of the weights (2048 columns, one block per target device),
* the slots of the weights buffer and of the outgoing buffer (four groups of four slots of 128 columns),
* the row blocks of the device's output (one per source device).

Each piece is described by a map from the elements of its buffer to `Fin 16`; the elements of a piece are those the map
sends to its number. This module gives those maps, the windows the program names the pieces by, the proof that a window's
elements are the piece's, and where a window places an index.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.ViewIndex

@[expose] public section

noncomputable section

namespace Cert.Scatter

open Cert.KernelIdeal Cert.KernelIdeal.Gen
open Idealize.ShloMosaic
open Idealize.ShloMosaic.TcCoe
open Idealize.ShloMosaic.ValueIdx (ix2 ix3 reshapeEquiv_ix2_1ab)

/-! ## Targets and sources -/

/-- The device whose output block device `c` computes `l`-th: the one `l + 1` places after it (itself for `l = 15`). -/
def tg (c : Dev nD) (l : Fin 16) : Dev nD := ⟨(c.val + l.val + 1) % 16, Nat.mod_lt _ (by decide)⟩
/-- The device whose `l`-th block is for device `c`: the one `l + 1` places before it. -/
def sr (c : Dev nD) (l : Fin 16) : Dev nD := ⟨(c.val + (15 - l.val)) % 16, Nat.mod_lt _ (by decide)⟩
/-- The number of the block device `s` computes for device `d`: how many places `d` is after `s`, less one. -/
def hop (s d : Dev nD) : Fin 16 := ⟨(d.val + (15 - s.val)) % 16, Nat.mod_lt _ (by decide)⟩

theorem tg_val (c : Dev nD) (l : Fin 16) : (tg c l).val = (c.val + l.val + 1) % 16 := rfl

theorem tg_sr (c : Dev nD) (l : Fin 16) : tg (sr c l) l = c := by
  apply Fin.ext; have := c.isLt; have := l.isLt; simp only [tg, sr, nD] at *; omega
theorem sr_tg (c : Dev nD) (l : Fin 16) : sr (tg c l) l = c := by
  apply Fin.ext; have := c.isLt; have := l.isLt; simp only [tg, sr, nD] at *; omega
theorem hop_tg (c : Dev nD) (l : Fin 16) : hop c (tg c l) = l := by
  apply Fin.ext; have := c.isLt; have := l.isLt; simp only [tg, hop, nD] at *; omega
theorem tg_hop (s d : Dev nD) : tg s (hop s d) = d := by
  apply Fin.ext; have := s.isLt; have := d.isLt; simp only [tg, hop, nD] at *; omega
theorem hop_sr (c : Dev nD) (l : Fin 16) : hop (sr c l) c = l := by
  apply Fin.ext; have := c.isLt; have := l.isLt; simp only [sr, hop, nD] at *; omega
theorem sr_hop (s d : Dev nD) : sr d (hop s d) = s := by
  apply Fin.ext; have := s.isLt; have := d.isLt; simp only [sr, hop, nD] at *; omega
theorem tg_last (c : Dev nD) : tg c 15 = c := by
  apply Fin.ext; have := c.isLt; simp only [tg, nD] at *; show (c.val + 15 + 1) % 16 = c.val; omega
theorem sr_last (c : Dev nD) : sr c 15 = c := by
  apply Fin.ext; have := c.isLt; simp only [sr, nD] at *; show (c.val + (15 - 15)) % 16 = c.val; omega

/-- The targets of a device, as a permutation of the devices' numbers. -/
def tgE (c : Dev nD) : Fin 16 ≃ Dev nD := ⟨tg c, hop c, hop_tg c, tg_hop c⟩
/-- The sources of a device. -/
def srE (c : Dev nD) : Fin 16 ≃ Dev nD := ⟨sr c, fun s => hop s c, hop_sr c, fun s => sr_hop s c⟩

/-! ## Which piece an element lies in -/

def kW (i : S4x2048x512.Idx) : Fin 16 :=
  ⟨4 * (i 0).val + (i 2).val / 128, by
    have h0 : (i 0).val < 4 := (i 0).isLt
    have h2 : (i 2).val < 512 := (i 2).isLt
    omega⟩
def kC (i : S4x128x512.Idx) : Fin 16 :=
  ⟨4 * (i 0).val + (i 2).val / 128, by
    have h0 : (i 0).val < 4 := (i 0).isLt
    have h2 : (i 2).val < 512 := (i 2).isLt
    omega⟩
def kO (i : S2048x128.Idx) : Dev nD :=
  ⟨(i 0).val / 128, by
    have h0 : (i 0).val < 2048 := (i 0).isLt
    show (i 0).val / 128 < 16
    omega⟩
/-- The device a column of the weights belongs to. -/
def kCol (i : S2048x2048.Idx) : Dev nD :=
  ⟨(i 1).val / 128, by
    have h1 : (i 1).val < 2048 := (i 1).isLt
    show (i 1).val / 128 < 16
    omega⟩
/-- The number of the column block of an element of the weights, counted as device `c` loads them. -/
def kA (c : Dev nD) (i : S2048x2048.Idx) : Fin 16 := hop c (kCol i)

def setW (l : Fin 16) : Finset S4x2048x512.Idx := Finset.univ.filter fun i => kW i = l
def setC (l : Fin 16) : Finset S4x128x512.Idx := Finset.univ.filter fun i => kC i = l
def setO (d : Dev nD) : Finset S2048x128.Idx := Finset.univ.filter fun i => kO i = d
def setA (c : Dev nD) (l : Fin 16) : Finset S2048x2048.Idx := Finset.univ.filter fun i => kA c i = l
/-- A group of four slots. -/
def setWG (g : Fin 4) : Finset S4x2048x512.Idx := Finset.univ.filter fun i => (i 0).val = g.val
def setCG (g : Fin 4) : Finset S4x128x512.Idx := Finset.univ.filter fun i => (i 0).val = g.val

/-! ## The windows -/

abbrev xM : Memref sig .tc .vmem S128x2048 .f32 := Memref.whole cc0_stg0_0
abbrev aM : Memref sig .tc .hbm S2048x2048 .f32 := Memref.whole main_arg1
abbrev oM : Memref sig .tc .vmem S2048x128 .bf16 := Memref.whole cc0_stg1_0
abbrev wM : Memref sig .tc .vmem S4x2048x512 .f32 := Memref.whole cc0_scratch0
abbrev cM : Memref sig .tc .vmem S4x128x512 .bf16 := Memref.whole cc0_scratch1

theorem inbW (l : Fin 16) : ∀ a : Fin 3, (![l.val / 4, 0, 128 * (l.val % 4)] : Fin 3 → ℕ) a + S1x2048x128.size a ≤ S4x2048x512.size a := by
  have := l.isLt
  intro a
  match a with
  | ⟨0, _⟩ => show l.val / 4 + 1 ≤ 4; omega
  | ⟨1, _⟩ => show 0 + 2048 ≤ 2048; omega
  | ⟨2, _⟩ => show 128 * (l.val % 4) + 128 ≤ 512; omega
theorem inbC (l : Fin 16) : ∀ a : Fin 3, (![l.val / 4, 0, 128 * (l.val % 4)] : Fin 3 → ℕ) a + S1x128x128.size a ≤ S4x128x512.size a := by
  have := l.isLt
  intro a
  match a with
  | ⟨0, _⟩ => show l.val / 4 + 1 ≤ 4; omega
  | ⟨1, _⟩ => show 0 + 128 ≤ 128; omega
  | ⟨2, _⟩ => show 128 * (l.val % 4) + 128 ≤ 512; omega
theorem inbO (d : Dev nD) : ∀ a : Fin 2, (![128 * d.val, 0] : Fin 2 → ℕ) a + S128x128.size a ≤ S2048x128.size a := by
  have : d.val < 16 := d.isLt
  intro a
  match a with
  | ⟨0, _⟩ => show 128 * d.val + 128 ≤ 2048; omega
  | ⟨1, _⟩ => show 0 + 128 ≤ 128; omega
theorem inbA (d : Dev nD) : ∀ a : Fin 2, (![0, 128 * d.val] : Fin 2 → ℕ) a + S2048x128.size a ≤ S2048x2048.size a := by
  have : d.val < 16 := d.isLt
  intro a
  match a with
  | ⟨0, _⟩ => show 0 + 2048 ≤ 2048; omega
  | ⟨1, _⟩ => show 128 * d.val + 128 ≤ 2048; omega
theorem inbWG (g : Fin 4) : ∀ a : Fin 3, (![g.val, 0, 0] : Fin 3 → ℕ) a + S1x2048x512.size a ≤ S4x2048x512.size a := by
  have := g.isLt
  intro a
  match a with
  | ⟨0, _⟩ => show g.val + 1 ≤ 4; omega
  | ⟨1, _⟩ => show 0 + 2048 ≤ 2048; omega
  | ⟨2, _⟩ => show 0 + 512 ≤ 512; omega
theorem inbCG (g : Fin 4) : ∀ a : Fin 3, (![g.val, 0, 0] : Fin 3 → ℕ) a + S1x128x512.size a ≤ S4x128x512.size a := by
  have := g.isLt
  intro a
  match a with
  | ⟨0, _⟩ => show g.val + 1 ≤ 4; omega
  | ⟨1, _⟩ => show 0 + 128 ≤ 128; omega
  | ⟨2, _⟩ => show 0 + 512 ≤ 512; omega

abbrev rW (l : Fin 16) : Rect S4x2048x512 := Rect.unit (s := S4x2048x512) ![l.val / 4, 0, 128 * (l.val % 4)] S1x2048x128.size (inbW l)
abbrev rC (l : Fin 16) : Rect S4x128x512 := Rect.unit (s := S4x128x512) ![l.val / 4, 0, 128 * (l.val % 4)] S1x128x128.size (inbC l)
abbrev rO (d : Dev nD) : Rect S2048x128 := Rect.unit (s := S2048x128) ![128 * d.val, 0] S128x128.size (inbO d)
abbrev rA (d : Dev nD) : Rect S2048x2048 := Rect.unit (s := S2048x2048) ![0, 128 * d.val] S2048x128.size (inbA d)
abbrev rWG (g : Fin 4) : Rect S4x2048x512 := Rect.unit (s := S4x2048x512) ![g.val, 0, 0] S1x2048x512.size (inbWG g)
abbrev rCG (g : Fin 4) : Rect S4x128x512 := Rect.unit (s := S4x128x512) ![g.val, 0, 0] S1x128x512.size (inbCG g)

/-- Slot `l` of the weights buffer. -/
abbrev slotW (l : Fin 16) : Memref sig .tc .vmem S2048x128 .f32 := (wM.slice (rW l) (fun _ => rfl)).squeeze S2048x128 squeezes_S1x2048x128_S2048x128
/-- Slot `l` of the outgoing buffer. -/
abbrev slotC (l : Fin 16) : Memref sig .tc .vmem S128x128 .bf16 := (cM.slice (rC l) (fun _ => rfl)).squeeze S128x128 squeezes_S1x128x128_S128x128
/-- The output's rows of source `d`. -/
abbrev rowsO (d : Dev nD) : Memref sig .tc .vmem S128x128 .bf16 := oM.slice (rO d) (fun _ => rfl)
/-- The weights' columns of target `d`. -/
abbrev colsA (d : Dev nD) : Memref sig .tc .hbm S2048x128 .f32 := aM.slice (rA d) (fun _ => rfl)

/-! ## Membership -/

theorem mem_rW (l : Fin 16) (i : S4x2048x512.Idx) : i ∈ (rW l).set ↔ kW i = l := by
  have h0 : (i 0).val < 4 := (i 0).isLt
  have h1 : (i 1).val < 2048 := (i 1).isLt
  have h2 : (i 2).val < 512 := (i 2).isLt
  have hl := l.isLt
  rw [Rect.mem_set_unit, Fin.ext_iff]
  constructor
  · intro h
    have a0 := h 0; have a2 := h 2
    have b0 : l.val / 4 ≤ (i 0).val ∧ (i 0).val < l.val / 4 + 1 := a0
    have b2 : 128 * (l.val % 4) ≤ (i 2).val ∧ (i 2).val < 128 * (l.val % 4) + 128 := a2
    show 4 * (i 0).val + (i 2).val / 128 = l.val
    omega
  · intro h
    have h : 4 * (i 0).val + (i 2).val / 128 = l.val := h
    intro a
    match a with
    | ⟨0, _⟩ => show l.val / 4 ≤ (i 0).val ∧ (i 0).val < l.val / 4 + 1; omega
    | ⟨1, _⟩ => show 0 ≤ (i 1).val ∧ (i 1).val < 0 + 2048; omega
    | ⟨2, _⟩ => show 128 * (l.val % 4) ≤ (i 2).val ∧ (i 2).val < 128 * (l.val % 4) + 128; omega
theorem mem_rC (l : Fin 16) (i : S4x128x512.Idx) : i ∈ (rC l).set ↔ kC i = l := by
  have h0 : (i 0).val < 4 := (i 0).isLt
  have h1 : (i 1).val < 128 := (i 1).isLt
  have h2 : (i 2).val < 512 := (i 2).isLt
  have hl := l.isLt
  rw [Rect.mem_set_unit, Fin.ext_iff]
  constructor
  · intro h
    have a0 := h 0; have a2 := h 2
    have b0 : l.val / 4 ≤ (i 0).val ∧ (i 0).val < l.val / 4 + 1 := a0
    have b2 : 128 * (l.val % 4) ≤ (i 2).val ∧ (i 2).val < 128 * (l.val % 4) + 128 := a2
    show 4 * (i 0).val + (i 2).val / 128 = l.val
    omega
  · intro h
    have h : 4 * (i 0).val + (i 2).val / 128 = l.val := h
    intro a
    match a with
    | ⟨0, _⟩ => show l.val / 4 ≤ (i 0).val ∧ (i 0).val < l.val / 4 + 1; omega
    | ⟨1, _⟩ => show 0 ≤ (i 1).val ∧ (i 1).val < 0 + 128; omega
    | ⟨2, _⟩ => show 128 * (l.val % 4) ≤ (i 2).val ∧ (i 2).val < 128 * (l.val % 4) + 128; omega
theorem mem_rO (d : Dev nD) (i : S2048x128.Idx) : i ∈ (rO d).set ↔ kO i = d := by
  have h0 : (i 0).val < 2048 := (i 0).isLt
  have h1 : (i 1).val < 128 := (i 1).isLt
  rw [Rect.mem_set_unit, Fin.ext_iff]
  constructor
  · intro h
    have b0 : 128 * d.val ≤ (i 0).val ∧ (i 0).val < 128 * d.val + 128 := h 0
    show (i 0).val / 128 = d.val
    omega
  · intro h
    have h : (i 0).val / 128 = d.val := h
    intro a
    match a with
    | ⟨0, _⟩ => show 128 * d.val ≤ (i 0).val ∧ (i 0).val < 128 * d.val + 128; omega
    | ⟨1, _⟩ => show 0 ≤ (i 1).val ∧ (i 1).val < 0 + 128; omega
theorem mem_rA (d : Dev nD) (i : S2048x2048.Idx) : i ∈ (rA d).set ↔ kCol i = d := by
  have h0 : (i 0).val < 2048 := (i 0).isLt
  have h1 : (i 1).val < 2048 := (i 1).isLt
  rw [Rect.mem_set_unit, Fin.ext_iff]
  constructor
  · intro h
    have b1 : 128 * d.val ≤ (i 1).val ∧ (i 1).val < 128 * d.val + 128 := h 1
    show (i 1).val / 128 = d.val
    omega
  · intro h
    have h : (i 1).val / 128 = d.val := h
    intro a
    match a with
    | ⟨0, _⟩ => show 0 ≤ (i 0).val ∧ (i 0).val < 0 + 2048; omega
    | ⟨1, _⟩ => show 128 * d.val ≤ (i 1).val ∧ (i 1).val < 128 * d.val + 128; omega
theorem mem_rWG (g : Fin 4) (i : S4x2048x512.Idx) : i ∈ (rWG g).set ↔ (i 0).val = g.val := by
  have h1 : (i 1).val < 2048 := (i 1).isLt
  have h2 : (i 2).val < 512 := (i 2).isLt
  rw [Rect.mem_set_unit]
  constructor
  · intro h
    have b0 : g.val ≤ (i 0).val ∧ (i 0).val < g.val + 1 := h 0
    omega
  · intro h
    intro a
    match a with
    | ⟨0, _⟩ => show g.val ≤ (i 0).val ∧ (i 0).val < g.val + 1; omega
    | ⟨1, _⟩ => show 0 ≤ (i 1).val ∧ (i 1).val < 0 + 2048; omega
    | ⟨2, _⟩ => show 0 ≤ (i 2).val ∧ (i 2).val < 0 + 512; omega
theorem mem_rCG (g : Fin 4) (i : S4x128x512.Idx) : i ∈ (rCG g).set ↔ (i 0).val = g.val := by
  have h1 : (i 1).val < 128 := (i 1).isLt
  have h2 : (i 2).val < 512 := (i 2).isLt
  rw [Rect.mem_set_unit]
  constructor
  · intro h
    have b0 : g.val ≤ (i 0).val ∧ (i 0).val < g.val + 1 := h 0
    omega
  · intro h
    intro a
    match a with
    | ⟨0, _⟩ => show g.val ≤ (i 0).val ∧ (i 0).val < g.val + 1; omega
    | ⟨1, _⟩ => show 0 ≤ (i 1).val ∧ (i 1).val < 0 + 128; omega
    | ⟨2, _⟩ => show 0 ≤ (i 2).val ∧ (i 2).val < 0 + 512; omega

theorem slotW_set (l : Fin 16) : (slotW l).view.set = setW l := by
  show (((View.whole cc0_scratch0).slice (rW l)).reshape S2048x128 _).set = _
  rw [View.set_reshape, View.set_slice_whole]
  ext i; rw [mem_rW]; simp [setW]
theorem slotC_set (l : Fin 16) : (slotC l).view.set = setC l := by
  show (((View.whole cc0_scratch1).slice (rC l)).reshape S128x128 _).set = _
  rw [View.set_reshape, View.set_slice_whole]
  ext i; rw [mem_rC]; simp [setC]
theorem rowsO_set (d : Dev nD) : (rowsO d).view.set = setO d := by
  show ((View.whole cc0_stg1_0).slice (rO d)).set = _
  rw [View.set_slice_whole]
  ext i; rw [mem_rO]; simp [setO]
theorem colsA_set (c : Dev nD) (l : Fin 16) : (colsA (tg c l)).view.set = setA c l := by
  show ((View.whole main_arg1).slice (rA (tg c l))).set = _
  rw [View.set_slice_whole]
  ext i; rw [mem_rA]
  have e : kCol i = tg c l ↔ kA c i = l := ⟨fun h => by unfold kA; rw [h, hop_tg], fun h => by rw [← h]; exact (tg_hop c (kCol i)).symm⟩
  rw [e]; simp [setA]

/-! ## Where a window places an index -/

theorem slotW_emb (l : Fin 16) (x : Fin 2048) (y : Fin 128) :
    (slotW l).view.emb (ix2 x y) = (ix3 (⟨l.val / 4, by omega⟩ : Fin 4) x (⟨128 * (l.val % 4) + y.val, by omega⟩ : Fin 512) : S4x2048x512.Idx) := by
  show (rW l).emb (Shape.reshapeEquiv _ (ix2 x y)) = _
  rw [reshapeEquiv_ix2_1ab]
  funext a
  match a with
  | ⟨0, _⟩ => exact Fin.ext (show l.val / 4 + 1 * 0 = l.val / 4 by omega)
  | ⟨1, _⟩ => exact Fin.ext (show 0 + 1 * x.val = x.val by omega)
  | ⟨2, _⟩ => exact Fin.ext (show 128 * (l.val % 4) + 1 * y.val = 128 * (l.val % 4) + y.val by omega)
theorem slotC_emb (l : Fin 16) (x : Fin 128) (y : Fin 128) :
    (slotC l).view.emb (ix2 x y) = (ix3 (⟨l.val / 4, by omega⟩ : Fin 4) x (⟨128 * (l.val % 4) + y.val, by omega⟩ : Fin 512) : S4x128x512.Idx) := by
  show (rC l).emb (Shape.reshapeEquiv _ (ix2 x y)) = _
  rw [reshapeEquiv_ix2_1ab]
  funext a
  match a with
  | ⟨0, _⟩ => exact Fin.ext (show l.val / 4 + 1 * 0 = l.val / 4 by omega)
  | ⟨1, _⟩ => exact Fin.ext (show 0 + 1 * x.val = x.val by omega)
  | ⟨2, _⟩ => exact Fin.ext (show 128 * (l.val % 4) + 1 * y.val = 128 * (l.val % 4) + y.val by omega)
theorem rowsO_emb (d : Dev nD) (x : Fin 128) (y : Fin 128) :
    (rowsO d).view.emb (ix2 x y) = (ix2 (⟨128 * d.val + x.val, by have : d.val < 16 := d.isLt; omega⟩ : Fin 2048) y : S2048x128.Idx) := by
  show (rO d).emb (ix2 x y) = _
  funext a
  match a with
  | ⟨0, _⟩ => exact Fin.ext (show 128 * d.val + 1 * x.val = 128 * d.val + x.val by omega)
  | ⟨1, _⟩ => exact Fin.ext (show 0 + 1 * y.val = y.val by omega)
theorem colsA_emb (d : Dev nD) (x : Fin 2048) (y : Fin 128) :
    (colsA d).view.emb (ix2 x y) = (ix2 x (⟨128 * d.val + y.val, by have : d.val < 16 := d.isLt; omega⟩ : Fin 2048) : S2048x2048.Idx) := by
  show (rA d).emb (ix2 x y) = _
  funext a
  match a with
  | ⟨0, _⟩ => exact Fin.ext (show 0 + 1 * x.val = x.val by omega)
  | ⟨1, _⟩ => exact Fin.ext (show 128 * d.val + 1 * y.val = 128 * d.val + y.val by omega)

end Cert.Scatter

end
-- ==== Proof.Contents.lean ====
/-
# What each buffer holds

The contents the run leaves in each buffer, as functions of the arguments: the weights buffer slot by slot, the outgoing
buffer group by group, the output row block by row block. With them, what a copy or a store leaves on a piece is the
piece of these contents.
-/
module

public import proofs.«01_k».proof.Proof.Geometry

@[expose] public section

noncomputable section

namespace Cert.Scatter

open Cert.KernelIdeal Cert.KernelIdeal.Gen
open Idealize.ShloMosaic
open Idealize.ShloMosaic.TcCoe
open Idealize.ShloMosaic.ValueIdx (ix2 ix3 reshapeEquiv_ix2_1ab)

variable {F : FTy → Type} [FloatOps F]
variable (m : (ℓ : Loc nD τ sig) → Buf (Elt F) ℓ)

/-- The device's block of `x`, as the pipeline stages it. -/
def xOf (c : Dev nD) : (cc0_stg0_0 : Ref sig .tc).ty.Contents (Elt F) :=
  (win0_0.blk (0 : Fin 1)).view.read (Elt F) (m ((c : Thread nD τ).loc main_arg0))

/-- The device's copy of the weights. -/
abbrev aOf (c : Dev nD) : (main_arg1 : Ref sig .tc).ty.Contents (Elt F) := m ((c : Thread nD τ).loc main_arg1)

/-- The weights buffer once every column block is loaded: slot `l` holds the columns of target `tg c l`. -/
def wFin (c : Dev nD) : (cc0_scratch0 : Ref sig .tc).ty.Contents (Elt F) := fun (i : S4x2048x512.Idx) =>
  aOf m c (ix2 (i 1 : Fin 2048) (⟨128 * (tg c (kW i)).val + (i 2).val % 128, by
    have : (tg c (kW i)).val < 16 := (tg c (kW i)).isLt
    omega⟩ : Fin 2048))

/-- Group `g` of the weights buffer, as a load gives it. -/
def wGrp (c : Dev nD) (g : Fin 4) : Vec F S1x2048x512 .f32 := fun i => wFin m c (ix3 g (i 1 : Fin 2048) (i 2 : Fin 512))

/-- Group `g` of the outgoing buffer: the kernel's arithmetic on the staged block and the group's weights. -/
def cGrp (c : Dev nD) (g : Fin 4) : Vec F S1x128x512 .bf16 := k0_pay2 (k0_pay1 (xOf m c)) (wGrp m c g)

/-- The outgoing buffer once every group is computed. -/
def cFin (c : Dev nD) : (cc0_scratch1 : Ref sig .tc).ty.Contents (Elt F) := fun (i : S4x128x512.Idx) =>
  cGrp m c (i 0) (ix3 (0 : Fin 1) (i 1 : Fin 128) (i 2 : Fin 512))

/-- Device `d`'s output at the end: row block `s` is the block device `s` computed for it. -/
def outAt (d : Dev nD) : (cc0_stg1_0 : Ref sig .tc).ty.Contents (Elt F) := fun (i : S2048x128.Idx) =>
  cFin m (kO i) (ix3 (⟨(hop (kO i) d).val / 4, by have := (hop (kO i) d).isLt; omega⟩ : Fin 4)
    (⟨(i 0).val % 128, Nat.mod_lt _ (by decide)⟩ : Fin 128)
    (⟨128 * ((hop (kO i) d).val % 4) + (i 1).val, by have : (i 1).val < 128 := (i 1).isLt; omega⟩ : Fin 512))

/-! ## Copies -/

/-- Two contents the view's index reaches alike agree on the view's elements. -/
theorem eqOn_set {sp : Space} {s : Shape} {e : EltTy} (v : View sig .tc sp s e) {f g : v.ty.Contents (Elt F)} (h : ∀ x, v.read (Elt F) f x = v.read (Elt F) g x) :
    ∀ i ∈ v.set, f i = g i := by
  intro i hi
  obtain ⟨x, -, rfl⟩ := Finset.mem_map.mp hi
  exact View.eq_of_read_eq (h x)

theorem idx2_eta {n0 n1 : ℕ} (x : (⟨2, ![n0, n1]⟩ : Shape).Idx) : x = ix2 (x 0 : Fin n0) (x 1 : Fin n1) :=
  funext fun a => by match a with | ⟨0, _⟩ => rfl | ⟨1, _⟩ => rfl
theorem idx3_eta {n0 n1 n2 : ℕ} (x : (⟨3, ![n0, n1, n2]⟩ : Shape).Idx) : x = ix3 (x 0 : Fin n0) (x 1 : Fin n1) (x 2 : Fin n2) :=
  funext fun a => by match a with | ⟨0, _⟩ => rfl | ⟨1, _⟩ => rfl | ⟨2, _⟩ => rfl

theorem kW_slot (l : Fin 16) (x : Fin 2048) (y : Fin 128) :
    kW (ix3 (⟨l.val / 4, by omega⟩ : Fin 4) x (⟨128 * (l.val % 4) + y.val, by omega⟩ : Fin 512)) = l := by
  apply Fin.ext
  show 4 * (l.val / 4) + (128 * (l.val % 4) + y.val) / 128 = l.val
  omega
theorem kO_row (d : Dev nD) (x : Fin 128) (y : Fin 128) :
    kO (ix2 (⟨128 * d.val + x.val, by have : d.val < 16 := d.isLt; omega⟩ : Fin 2048) y) = d := by
  apply Fin.ext
  show (128 * d.val + x.val) / 128 = d.val
  omega

/-- A load of the columns of target `tg c l` into slot `l` leaves the slot of `wFin`. -/
theorem landW (c : Dev nD) (l : Fin 16) (fd : (cc0_scratch0 : Ref sig .tc).ty.Contents (Elt F)) :
    ∀ i ∈ setW l, ((slotW l).view.write (Elt F) fd ((colsA (tg c l)).view.read (Elt F) (aOf m c)) Finset.univ) i = wFin m c i := by
  rw [← slotW_set l]
  refine eqOn_set (F := F) (slotW l).view fun x => ?_
  rw [View.read_write_univ, idx2_eta x]
  show aOf m c ((colsA (tg c l)).view.emb (ix2 (x 0) (x 1))) = wFin m c ((slotW l).view.emb (ix2 (x 0) (x 1)))
  have e1 := colsA_emb (tg c l) (x 0) (x 1)
  have e2 := slotW_emb l (x 0) (x 1)
  refine (congrArg (aOf m c) e1).trans (Eq.trans ?_ (congrArg (wFin m c) e2).symm)
  unfold wFin
  refine congrArg (aOf m c) ?_
  refine congrArg (ix2 (x 0)) (Fin.ext ?_)
  have hy : (x 1 : Fin 128).val < 128 := (x 1).isLt
  show 128 * (tg c l).val + (x 1).val = 128 * (tg c (kW (ix3 (⟨l.val / 4, by omega⟩ : Fin 4) (x 0) (⟨128 * (l.val % 4) + (x 1).val, by omega⟩ : Fin 512)))).val
    + (128 * (l.val % 4) + (x 1).val) % 128
  rw [kW_slot l (x 0) (x 1)]
  omega

/-- Row block `s` of device `d`'s output is what slot `l` of device `s`'s outgoing buffer holds, `d` being its `l`-th target. -/
theorem outAt_row (s : Dev nD) (l : Fin 16) (x : Fin 128) (y : Fin 128) :
    outAt m (tg s l) (ix2 (⟨128 * s.val + x.val, by have : s.val < 16 := s.isLt; omega⟩ : Fin 2048) y)
      = cFin m s (ix3 (⟨l.val / 4, by omega⟩ : Fin 4) x (⟨128 * (l.val % 4) + y.val, by omega⟩ : Fin 512)) := by
  unfold outAt
  have hk := kO_row s x y
  have hh : hop s (tg s l) = l := hop_tg s l
  simp only [hk, hh]
  refine congrArg (cFin m s) ?_
  refine congrArg (fun z => ix3 (⟨l.val / 4, by omega⟩ : Fin 4) z (⟨128 * (l.val % 4) + y.val, by omega⟩ : Fin 512)) (Fin.ext ?_)
  show (128 * s.val + x.val) % 128 = x.val
  omega

/-- A send of slot `l` into the target's row block of the sender leaves that row block of `outAt`. -/
theorem landO (c : Dev nD) (l : Fin 16) (fd : (cc0_stg1_0 : Ref sig .tc).ty.Contents (Elt F)) :
    ∀ i ∈ setO c, ((rowsO c).view.write (Elt F) fd ((slotC l).view.read (Elt F) (cFin m c)) Finset.univ) i = outAt m (tg c l) i := by
  rw [← rowsO_set c]
  refine eqOn_set (F := F) (rowsO c).view fun x => ?_
  rw [View.read_write_univ, idx2_eta x]
  show cFin m c ((slotC l).view.emb (ix2 (x 0) (x 1))) = outAt m (tg c l) ((rowsO c).view.emb (ix2 (x 0) (x 1)))
  have e1 := slotC_emb l (x 0) (x 1)
  have e2 := rowsO_emb c (x 0) (x 1)
  exact (congrArg (cFin m c) e1).trans ((outAt_row m c l (x 0) (x 1)).symm.trans (congrArg (outAt m (tg c l)) e2).symm)

/-! ## Loads and stores -/

theorem readX (f : (cc0_stg0_0 : Ref sig .tc).ty.Contents (Elt F)) (h) :
    (xM : Memref sig .tc .vmem S128x2048 .f32).view.readAt (Elt F) (Rect.unit (s := S128x2048) ![0, 0] S128x2048.size h).toLoadRect f = f :=
  Memref.readAt_unit_zero (Elt F) cc0_stg0_0 (funext fun a => by fin_cases a <;> rfl) _ f

theorem rWG_emb (g : Fin 4) (i : S1x2048x512.Idx) : (rWG g).emb i = (ix3 g (i 1 : Fin 2048) (i 2 : Fin 512) : S4x2048x512.Idx) := by
  have h0 : (i 0).val < 1 := (i 0).isLt
  funext a
  match a with
  | ⟨0, _⟩ => exact Fin.ext (show g.val + 1 * (i 0).val = g.val by omega)
  | ⟨1, _⟩ => exact Fin.ext (show 0 + 1 * (i 1).val = (i 1).val by omega)
  | ⟨2, _⟩ => exact Fin.ext (show 0 + 1 * (i 2).val = (i 2).val by omega)
theorem rCG_emb (g : Fin 4) (i : S1x128x512.Idx) : (rCG g).emb i = (ix3 g (i 1 : Fin 128) (i 2 : Fin 512) : S4x128x512.Idx) := by
  have h0 : (i 0).val < 1 := (i 0).isLt
  funext a
  match a with
  | ⟨0, _⟩ => exact Fin.ext (show g.val + 1 * (i 0).val = g.val by omega)
  | ⟨1, _⟩ => exact Fin.ext (show 0 + 1 * (i 1).val = (i 1).val by omega)
  | ⟨2, _⟩ => exact Fin.ext (show 0 + 1 * (i 2).val = (i 2).val by omega)

theorem readWG (c : Dev nD) (g : Fin 4) : (wM : Memref sig .tc .vmem S4x2048x512 .f32).view.readAt (Elt F) (rWG g).toLoadRect (wFin m c) = wGrp m c g := by
  funext i
  show wFin m c ((rWG g).emb i) = wFin m c _
  rw [rWG_emb]

theorem writeCG (c : Dev nD) (g : Fin 4) (fd : (cc0_scratch1 : Ref sig .tc).ty.Contents (Elt F)) :
    ∀ i ∈ setCG g, (((cM : Memref sig .tc .vmem S4x128x512 .bf16).access (rCG g)).write (Elt F) fd (cGrp m c g) Finset.univ) i = cFin m c i := by
  have hs : ((cM : Memref sig .tc .vmem S4x128x512 .bf16).access (rCG g)).set = setCG g := by
    show ((View.whole cc0_scratch1).slice (rCG g)).set = _
    rw [View.set_slice_whole]
    ext i; rw [mem_rCG]; simp [setCG]
  rw [← hs]
  refine eqOn_set (F := F) ((cM : Memref sig .tc .vmem S4x128x512 .bf16).access (rCG g)) fun x => ?_
  rw [View.read_write_univ]
  show cGrp m c g x = cFin m c ((rCG g).emb x)
  rw [rCG_emb]
  show cGrp m c g x = cGrp m c g (ix3 (0 : Fin 1) (x 1 : Fin 128) (x 2 : Fin 512))
  refine congrArg (cGrp m c g) ((idx3_eta x).trans ?_)
  exact congrArg (fun z => ix3 z (x 1 : Fin 128) (x 2 : Fin 512)) (Subsingleton.elim (α := Fin 1) _ _)

/-- The device's own block: the last slot, loaded and stored into its own row block. -/
theorem writeOwn (c : Dev nD) (fd : (cc0_stg1_0 : Ref sig .tc).ty.Contents (Elt F)) :
    ∀ i ∈ setO c, (((oM : Memref sig .tc .vmem S2048x128 .bf16).access (rO c)).write (Elt F) fd
      (k0_pay6 ((cM : Memref sig .tc .vmem S4x128x512 .bf16).view.readAt (Elt F) (rC 15).toLoadRect (cFin m c))) Finset.univ) i = outAt m c i := by
  have h := landO m c 15 fd
  rw [tg_last] at h
  exact h

end Cert.Scatter

end
-- ==== Proof.Protocol.lean ====
/-
# The protocol: cells, schedule, payloads, levels, what is owed

Sixteen devices; each has a barrier cell, sixteen cells of loads, sixteen of sends and sixteen of receptions (the last
send and reception cell of a device is never used). Every cell has one round, round 0:

* the barrier cell of device `c` has one duty per other device `p`, of one unit; `p`'s signal hands `c` the row block of
  `p`'s output that `c` will write into;
* the cell of load `l` hands its device slot `l` of its weights buffer, filled, and the column block back;
* the cell of send `l` hands its device slot `l` of its outgoing buffer back;
* the cell of reception `l` of device `d` hands it the row block of its output that its `l`-th source wrote.

A device owes the signals and the receptions of its targets. Receptions are above the barrier cells, these above all
other cells: a device waits for its barrier owing receptions only, and for its receptions owing nothing.
-/
module

public import proofs.«01_k».proof.Proof.Contents

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem

/-- The semaphores of the transfers: loads (`k = 0`), sends (`k = 1`), receptions (`k = 2`). -/
def dsem (k : Fin 3) (l : Fin 16) : DmaSem sig :=
  match k with
  | ⟨0, _⟩ => (⟨2 + l.val, by have := l.isLt; show 2 + l.val < 50; omega⟩ : Fin 50)
  | ⟨1, _⟩ => (⟨18 + (l.val + 1) % 16, by show 18 + (l.val + 1) % 16 < 50; omega⟩ : Fin 50)
  | ⟨2, _⟩ => (⟨34 + (l.val + 1) % 16, by show 34 + (l.val + 1) % 16 < 50; omega⟩ : Fin 50)

/-- Which of them a semaphore is. -/
def kind (q : DmaSem sig) : Option (Fin 3 × Fin 16) :=
  if (q : Fin 50).val < 2 then none
  else if (q : Fin 50).val < 18 then some (0, ⟨((q : Fin 50).val - 2) % 16, Nat.mod_lt _ (by decide)⟩)
  else if (q : Fin 50).val < 34 then some (1, ⟨((q : Fin 50).val - 18 + 15) % 16, Nat.mod_lt _ (by decide)⟩)
  else some (2, ⟨((q : Fin 50).val - 34 + 15) % 16, Nat.mod_lt _ (by decide)⟩)

theorem kind_dsem (k : Fin 3) (l : Fin 16) : kind (dsem k l) = some (k, l) := by revert k l; decide

theorem dsem_inj {k k' : Fin 3} {l l' : Fin 16} (h : dsem k l = dsem k' l') : (k, l) = (k', l') :=
  Option.some.inj ((kind_dsem k l).symm.trans ((congrArg kind h).trans (kind_dsem k' l')))

abbrev barCell (c : Dev nD) : GSem nD τ sig := ((c : Thread nD τ), .reg barS)
abbrev dCell (c : Dev nD) (k : Fin 3) (l : Fin 16) : GSem nD τ sig := ((c : Thread nD τ), .dma (dsem k l))
abbrev loadCell (c : Dev nD) (l : Fin 16) : GSem nD τ sig := dCell c 0 l
abbrev sendCell (c : Dev nD) (l : Fin 16) : GSem nD τ sig := dCell c 1 l
abbrev recvCell (c : Dev nD) (l : Fin 16) : GSem nD τ sig := dCell c 2 l

/-- The credit of a load, and of a send. -/
abbrev NL : ℕ := (slotW 0).view.dmaCredit
abbrev NS : ℕ := (rowsO 0).view.dmaCredit
theorem NL_pos : 0 < NL := View.dmaCredit_pos _ (by decide)
theorem NS_pos : 0 < NS := View.dmaCredit_pos _ (by decide)

/-! ## Pieces held -/

def pW (c : Dev nD) (l : Fin 16) (f : Buf (Elt F) ((c : Thread nD τ).loc cc0_scratch0)) : sProp 𝕄 :=
  ((c : Thread nD τ).loc cc0_scratch0) ↦[setW l]{fullShare} f
def pC (c : Dev nD) (l : Fin 16) (f : Buf (Elt F) ((c : Thread nD τ).loc cc0_scratch1)) : sProp 𝕄 :=
  ((c : Thread nD τ).loc cc0_scratch1) ↦[setC l]{fullShare} f
def pO (d s : Dev nD) (f : Buf (Elt F) ((d : Thread nD τ).loc cc0_stg1_0)) : sProp 𝕄 :=
  ((d : Thread nD τ).loc cc0_stg1_0) ↦[setO s]{fullShare} f
def pA (c : Dev nD) (l : Fin 16) (f : Buf (Elt F) ((c : Thread nD τ).loc main_arg1)) : sProp 𝕄 :=
  ((c : Thread nD τ).loc main_arg1) ↦[setA c l]{fullShare} f

instance pW_storable (c : Dev nD) (l f) : BI.Storable (upEmb : UEmb _ 𝕄) (pW (F := F) c l f) := by unfold pW; infer_instance
instance pC_storable (c : Dev nD) (l f) : BI.Storable (upEmb : UEmb _ 𝕄) (pC (F := F) c l f) := by unfold pC; infer_instance
instance pO_storable (c : Dev nD) (l f) : BI.Storable (upEmb : UEmb _ 𝕄) (pO (F := F) c l f) := by unfold pO; infer_instance
instance pA_storable (c : Dev nD) (l f) : BI.Storable (upEmb : UEmb _ 𝕄) (pA (F := F) c l f) := by unfold pA; infer_instance

/-! ## The schedule -/

/-- What the signal of device `p` hands device `c`: the row block of `p`'s output that `c` writes. -/
def barPay (c p : Dev nD) : sProp 𝕄 := iprop(∃ f, pO (F := F) p c f)

/-- What a transfer's cell hands its device. -/
def dmaPay (c : Dev nD) (k : Fin 3) (l : Fin 16) : sProp 𝕄 :=
  match k with
  | ⟨0, _⟩ => iprop(pW c l (wFin m c) ∗ pA c l (aOf m c))
  | ⟨1, _⟩ => pC c l (cFin m c)
  | ⟨2, _⟩ => pO c (sr c l) (outAt m c)

def pay (g : GSem nD τ sig) (p : Dev nD) : sProp 𝕄 :=
  match g.2 with
  | .reg _ => barPay g.1.1 p
  | .dma q => match kind q with
    | some (k, l) => dmaPay m g.1.1 k l
    | none => iprop(emp)

/-- A transfer cell's duty: one, except for the cells the kernel does not use. -/
def dmaDuty (k : Fin 3) (l : Fin 16) : Finset (Dev nD) := if k = 0 ∨ l ≠ 15 then {0} else ∅
def dmaAmt (k : Fin 3) : ℕ := if k = 0 then NL else NS

def duty (g : GSem nD τ sig) : Finset (Dev nD) :=
  match g.2 with
  | .reg _ => Finset.univ.erase g.1.1
  | .dma q => match kind q with
    | some (k, l) => dmaDuty k l
    | none => ∅

def amt (g : GSem nD τ sig) : ℕ :=
  match g.2 with
  | .reg _ => 1
  | .dma q => match kind q with
    | some (k, l) => dmaAmt k
    | none => 1

theorem dmaAmt_pos (k : Fin 3) : 0 < dmaAmt k := by
  unfold dmaAmt; split
  · exact NL_pos
  · exact NS_pos

theorem amt_pos (g : GSem nD τ sig) : 0 < amt g := by
  unfold amt
  split
  · exact Nat.one_pos
  · split
    · exact dmaAmt_pos _
    · exact Nat.one_pos

def Rd : Rounds.Schedule (GSem nD τ sig) (Dev nD) 𝕄 where
  duties g r := if r = 0 then duty g else ∅
  unitless _ := False
  amount g _ _ := amt g
  payload g _ p := pay m g p
  amount_pos g _ _ _ := amt_pos g

instance dmaPay_storable (c : Dev nD) (k : Fin 3) (l : Fin 16) : BI.Storable (upEmb : UEmb _ 𝕄) (dmaPay m c k l) := by
  unfold dmaPay; split <;> infer_instance

instance Rd_payload_storable (g : GSem nD τ sig) (r : ℕ) (p : Dev nD) : BI.Storable (upEmb : UEmb _ 𝕄) ((Rd m).payload g r p) := by
  show BI.Storable upEmb (pay m g p)
  unfold pay barPay
  split
  · infer_instance
  · split <;> infer_instance

section Sched
variable (c : Dev nD) (k : Fin 3) (l : Fin 16)

theorem duties_bar : (Rd m).duties (barCell c) 0 = Finset.univ.erase c := rfl
theorem duties_dma : (Rd m).duties (dCell c k l) 0 = dmaDuty k l := by
  show (match kind (dsem k l) with | some (k, l) => dmaDuty k l | none => ∅) = _
  rw [kind_dsem]
theorem duties_later (g : GSem nD τ sig) : ∀ r, 1 ≤ r → (Rd m).duties g r = ∅ := fun r hr => if_neg (by omega)
theorem mem_duties_dma (h : k = 0 ∨ l ≠ 15) : (0 : Dev nD) ∈ (Rd m).duties (dCell c k l) 0 := by
  rw [duties_dma, dmaDuty, if_pos h]; exact Finset.mem_singleton_self _
theorem duties_unused (h : k ≠ 0) : ∀ r, 0 ≤ r → (Rd m).duties (dCell c k 15) r = ∅ := fun r _ => by
  rcases Nat.eq_zero_or_pos r with rfl | hr
  · rw [duties_dma, dmaDuty, if_neg]; rintro (h' | h')
    · exact h h'
    · exact h' rfl
  · exact duties_later m _ r hr

theorem amount_bar (p : Dev nD) : (Rd m).amount (barCell c) 0 p = 1 := rfl
theorem amount_dma (p : Dev nD) : (Rd m).amount (dCell c k l) 0 p = dmaAmt k := by
  show (match kind (dsem k l) with | some (k, l) => dmaAmt k | none => 1) = _
  rw [kind_dsem]
theorem payload_bar (p : Dev nD) : (Rd m).payload (barCell c) 0 p = barPay c p := rfl
theorem payload_dma (p : Dev nD) : (Rd m).payload (dCell c k l) 0 p = dmaPay m c k l := by
  show (match kind (dsem k l) with | some (k, l) => dmaPay m c k l | none => iprop(emp)) = _
  rw [kind_dsem]

theorem expect_bar : (Rd m).expect (barCell c) 0 = 15 := by
  unfold Schedule.expect Schedule.amountOf
  rw [duties_bar, Finset.sum_congr rfl fun d _ => amount_bar m c d, Finset.sum_const, smul_eq_mul, Finset.card_erase_of_mem (Finset.mem_univ _)]
  rfl
theorem expect_dma (h : k = 0 ∨ l ≠ 15) : (Rd m).expect (dCell c k l) 0 = dmaAmt k := by
  unfold Schedule.expect Schedule.amountOf
  rw [duties_dma, dmaDuty, if_pos h, Finset.sum_singleton, amount_dma]
theorem rest_bar : bigSep ((Rd m).duties (barCell c) 0 \ ∅) (fun d => (Rd m).payload (barCell c) 0 d) = bigSep (Finset.univ.erase c) fun p => barPay (F := F) c p := by
  rw [Finset.sdiff_empty, duties_bar]; rfl
theorem rest_dma (h : k = 0 ∨ l ≠ 15) :
    bigSep ((Rd m).duties (dCell c k l) 0 \ ∅) (fun d => (Rd m).payload (dCell c k l) 0 d) = dmaPay m c k l := by
  rw [Finset.sdiff_empty, duties_dma, dmaDuty, if_pos h, bigSep_singleton, payload_dma]

end Sched

/-! ## What a device owes -/

/-- The signals device `c` has still to send once those to the devices below `n` are done. -/
def sigTodo (c : Dev nD) (n : ℕ) : Finset (Dev nD) := Finset.univ.filter fun p => n ≤ p.val ∧ p ≠ c
/-- The sends still to start once the first `t` are. -/
def sendTodo (t : ℕ) : Finset (Fin 16) := Finset.univ.filter fun l => t ≤ l.val ∧ l.val < 15

def owed (c : Dev nD) (n t : ℕ) : CellTallies nD τ sig Unit :=
  (∑ p ∈ sigTodo c n, tallyAt (barCell p) () 1) + ∑ l ∈ sendTodo t, tallyAt (recvCell (tg c l) l) () NS

theorem owed_signal (c p : Dev nD) (t : ℕ) (h : p ≠ c) : owed c p.val t = owed c (p.val + 1) t + tallyAt (barCell p) () 1 := by
  have e : sigTodo c p.val = insert p (sigTodo c (p.val + 1)) := by
    ext q
    simp only [sigTodo, Finset.mem_filter, Finset.mem_univ, true_and, Finset.mem_insert]
    constructor
    · rintro ⟨h1, h2⟩
      by_cases hq : q = p
      · exact .inl hq
      · have : q.val ≠ p.val := fun h => hq (Fin.ext h)
        exact .inr ⟨by omega, h2⟩
    · rintro (rfl | ⟨h1, h2⟩)
      · exact ⟨le_rfl, h⟩
      · exact ⟨by omega, h2⟩
  have hp : p ∉ sigTodo c (p.val + 1) := by simp [sigTodo]
  unfold owed
  rw [e, Finset.sum_insert hp]
  exact (add_assoc _ _ _).trans (add_comm _ _)

theorem sigTodo_self (c : Dev nD) : sigTodo c (c.val + 1) = sigTodo c c.val := by
  ext q
  simp only [sigTodo, Finset.mem_filter, Finset.mem_univ, true_and]
  constructor
  · rintro ⟨h1, h2⟩; exact ⟨by omega, h2⟩
  · rintro ⟨h1, h2⟩
    have : q.val ≠ c.val := fun h => h2 (Fin.ext h)
    exact ⟨by omega, h2⟩

theorem owed_send (c : Dev nD) (n : ℕ) (l : Fin 16) (h : l ≠ 15) :
    owed c n l.val = owed c n (l.val + 1) + tallyAt (recvCell (tg c l) l) () NS := by
  have hl : l.val ≠ 15 := fun h' => h (Fin.ext h')
  have e : sendTodo l.val = insert l (sendTodo (l.val + 1)) := by
    ext q
    have := q.isLt
    simp only [sendTodo, Finset.mem_filter, Finset.mem_univ, true_and, Finset.mem_insert, Fin.ext_iff]
    omega
  have hp : l ∉ sendTodo (l.val + 1) := by simp [sendTodo]
  unfold owed
  rw [e, Finset.sum_insert hp]
  exact (congrArg _ (add_comm _ _)).trans (add_assoc _ _ _).symm

theorem owed_done (c : Dev nD) : owed c 16 15 = 0 := by
  have h1 : sigTodo c 16 = ∅ := Finset.filter_eq_empty_iff.mpr fun p _ h => by
    have : p.val < 16 := p.isLt
    omega
  have h2 : sendTodo 15 = ∅ := Finset.filter_eq_empty_iff.mpr fun p _ h => by omega
  unfold owed
  rw [h1, h2, Finset.sum_empty, Finset.sum_empty, add_zero]

theorem sum_tallyAt_pos {I : Type} (S : Finset I) (f : I → GSem nD τ sig) (N : ℕ) {g : GSem nD τ sig} {u : Unit}
    (h : 0 < (∑ i ∈ S, tallyAt (f i) () N : CellTallies nD τ sig Unit) g u) : ∃ i ∈ S, g = f i := by
  rw [Finset.sum_apply, Finsupp.finset_sum_apply] at h
  obtain ⟨i, hi, hp⟩ := Finset.exists_ne_zero_of_sum_ne_zero (Nat.pos_iff_ne_zero.mp h)
  refine ⟨i, hi, ?_⟩
  rw [tallyAt_apply] at hp
  by_contra hn
  exact hp (if_neg fun h' => hn h'.1)

theorem owed_pos {c : Dev nD} {n t : ℕ} {g : GSem nD τ sig} {u : Unit} (h : 0 < owed c n t g u) :
    (∃ p ∈ sigTodo c n, g = barCell p) ∨ ∃ l, g = recvCell (tg c l) l := by
  unfold owed at h
  rw [Pi.add_apply, Finsupp.add_apply] at h
  rcases Nat.eq_zero_or_pos ((∑ p ∈ sigTodo c n, tallyAt (barCell p) () 1 : CellTallies nD τ sig Unit) g u) with h0 | h1
  · rw [h0, zero_add] at h
    obtain ⟨l, -, hl⟩ := sum_tallyAt_pos _ (fun l => recvCell (tg c l) l) NS h
    exact .inr ⟨l, hl⟩
  · exact .inl (sum_tallyAt_pos _ barCell 1 h1)

/-! ## Levels -/

def L (g : GSem nD τ sig) : Finset Unit := if g.1.2 = .tc then {()} else ∅

def lvl (sm : SemLoc sig) : ℕ :=
  match sm with
  | .reg _ => 1
  | .dma q => match kind q with
    | some (k, _) => if k = 2 then 2 else 0
    | none => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lvl_dsem (k : Fin 3) (l : Fin 16) : lvl (.dma (dsem k l)) = if k = 2 then 2 else 0 := by
  show (match kind (dsem k l) with | some (k, _) => if k = 2 then 2 else 0 | none => 0) = _
  rw [kind_dsem]

/-- A device waits for a cell while owing only cells above it. -/
theorem mayWait (c : Dev nD) (sm : SemLoc sig) (n t : ℕ) (h : lvl sm = 0 ∨ (lvl sm = 1 ∧ n = 16)) :
    (levAts L lv : sProp 𝕄) ⊢ MayWait (c : Thread nD τ) sm () (owed c n t) := by
  refine MayOwe.of_cut (L := L) (lev := lv) (lvl sm) (fun p hp => by rw [Finset.mem_singleton.mp hp, L_tc]; exact Finset.mem_singleton_self _)
    (fun g u hg => ?_) (fun p hp => by rw [Finset.mem_singleton.mp hp]; exact le_rfl) (fun g u hg => ?_)
  · rcases owed_pos hg with ⟨p, -, rfl⟩ | ⟨l, rfl⟩ <;> exact Finset.mem_singleton_self _
  · rcases owed_pos hg with ⟨p, hp, rfl⟩ | ⟨l, rfl⟩
    · show lvl sm < 1
      rcases h with h | ⟨-, h⟩
      · omega
      · subst h
        have : p.val < 16 := p.isLt
        simp only [sigTodo, Finset.mem_filter] at hp
        omega
    · show lvl sm < lvl (.dma (dsem 2 l))
      rw [lvl_dsem]
      show lvl sm < 2
      omega

theorem mayWait_done (c : Dev nD) (sm : SemLoc sig) : (levAts L lv : sProp 𝕄) ⊢ MayWait (c : Thread nD τ) sm () (owed c 16 15) := by
  rw [owed_done, MayWait_zero]; iintro -; iempintro

end Cert.Scatter

end
-- ==== Proof.State.lean ====
/-
# What a device holds between two effects of the body

The body is a fixed sequence of signals, loads, sends and waits. `Ctr` counts how many of each are done; `St` is
everything the device then holds, piece by piece, as a function of those counts. A step of the body turns `St` at one
count into `St` at the next, changing one piece.
-/
module

public import proofs.«01_k».proof.Proof.Protocol

@[expose] public section

set_option maxRecDepth 4000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- A device's cells: the barrier's, and the transfers'. -/
abbrev CI : Type := Option (Fin 3 × Fin 16)

def csem : CI → SemLoc sig
  | none => .reg barS
  | some (k, l) => .dma (dsem k l)

def kcell (x : Dev nD × CI) : GSem nD τ sig := ((x.1 : Thread nD τ), csem x.2)

/-- The invariants of all cells under their names, that each cell's round is open, and the levels. -/
def Rec (K : Dev nD × CI → ℕ) : sProp 𝕄 :=
  iprop((bigSep Finset.univ fun x : Dev nD × CI => cellInv ER (Rd m) (K x) (kcell x))
    ∗ (bigSep Finset.univ fun x : Dev nD × CI => reached ER (kcell x) 0) ∗ levAts L lv)

instance Rec_persistent (K : Dev nD × CI → ℕ) : BI.Persistent (Rec m K) := by unfold Rec; infer_instance

theorem Rec_inv (K : Dev nD × CI → ℕ) (x : Dev nD × CI) : Rec m K ⊢ cellInv ER (Rd m) (K x) (kcell x) := by
  have h : (bigSep Finset.univ fun x : Dev nD × CI => cellInv ER (Rd m) (K x) (kcell x)) ⊢ cellInv ER (Rd m) (K x) (kcell x) :=
    bigSep_elim (Finset.mem_univ x)
  unfold Rec; iintro ⟨H, -, -⟩
  iapply h; iexact H
theorem Rec_reached (K : Dev nD × CI → ℕ) (x : Dev nD × CI) : Rec m K ⊢ reached ER (kcell x) 0 := by
  have h : (bigSep Finset.univ fun x : Dev nD × CI => (reached ER (kcell x) 0 : sProp 𝕄)) ⊢ reached ER (kcell x) 0 :=
    bigSep_elim (Finset.mem_univ x)
  unfold Rec; iintro ⟨-, H, -⟩
  iapply h; iexact H
theorem Rec_lev (K : Dev nD × CI → ℕ) : Rec m K ⊢ (levAts L lv : sProp 𝕄) := by unfold Rec; iintro ⟨-, -, H⟩; iexact H

/-! ## The pieces -/

section Pieces
variable (c : Dev nD)

def Owe (n t : ℕ) : sProp 𝕄 := iprop(∃ W, owes (c : Thread nD τ) (owed c n t) W)

/-- The signals to come: the duty each pays, and the row block it hands over. -/
def sgP (n : ℕ) (p : Dev nD) : sProp 𝕄 :=
  if n ≤ p.val ∧ p ≠ c then iprop(dutyTok ER (barCell p) 0 c ∗ ∃ f, pO (F := F) c p f) else iprop(emp)
def Sig (n : ℕ) : sProp 𝕄 := bigSep Finset.univ fun p => sgP (F := F) c n p

/-- The barrier: before its wait, the credit and the position; after, its counter at zero. -/
def Bar (b : Bool) : sProp 𝕄 :=
  if b then semVal (barCell c) 0 else iprop(cred (tallyAt (barCell c) () 15) ∗ atPos ER (barCell c) 0 ∅ 0)

/-- Load `l` after `n` are started and `w` waited for. -/
def ldP (n w : ℕ) (l : Fin 16) : sProp 𝕄 :=
  if l.val < w then iprop(semVal (loadCell c l) 0 ∗ pW c l (wFin m c) ∗ pA c l (aOf m c))
  else if l.val < n then iprop(cred (tallyAt (loadCell c l) () NL) ∗ atPos ER (loadCell c l) 0 ∅ 0)
  else iprop(dutyTok ER (loadCell c l) 0 0 ∗ atPos ER (loadCell c l) 0 ∅ 0 ∗ (∃ f, pW (F := F) c l f) ∗ pA c l (aOf m c))
def Ld (n w : ℕ) : sProp 𝕄 := bigSep Finset.univ fun l => ldP m c n w l

/-- The groups of the outgoing buffer not computed yet. -/
def cgP (g : ℕ) (j : Fin 4) : sProp 𝕄 :=
  if j.val < g then iprop(emp) else iprop(∃ f : Buf (Elt F) ((c : Thread nD τ).loc cc0_scratch1), ((c : Thread nD τ).loc cc0_scratch1) ↦[setCG j]{fullShare} f)
def Cg (g : ℕ) : sProp 𝕄 := bigSep Finset.univ fun j => cgP (F := F) c g j

/-- Send `l` after `t` are started and `w` waited for, the barrier passed or not, `g` groups computed. -/
def txP (b : Bool) (g t w : ℕ) (l : Fin 16) : sProp 𝕄 :=
  if l = 15 then iprop(atPos ER (sendCell c l) 0 ∅ 0 ∗ if l.val < 4 * g then pC c l (cFin m c) else iprop(emp))
  else if l.val < w then iprop(semVal (sendCell c l) 0 ∗ pC c l (cFin m c))
  else if l.val < t then iprop(cred (tallyAt (sendCell c l) () NS) ∗ atPos ER (sendCell c l) 0 ∅ 0)
  else iprop((dutyTok ER (sendCell c l) 0 0 ∗ dutyTok ER (recvCell (tg c l) l) 0 0 ∗ atPos ER (sendCell c l) 0 ∅ 0)
    ∗ (if b then iprop(∃ f, pO (F := F) (tg c l) c f) else iprop(emp)) ∗ (if l.val < 4 * g then pC c l (cFin m c) else iprop(emp)))
def Tx (b : Bool) (g t w : ℕ) : sProp 𝕄 := bigSep Finset.univ fun l => txP m c b g t w l

/-- The device's own row block, stored or not. -/
def Own (o : Bool) : sProp 𝕄 := if o then pO c c (outAt m c) else iprop(∃ f, pO (F := F) c c f)

/-- Reception `l` after `r` are waited for. -/
def rxP (r : ℕ) (l : Fin 16) : sProp 𝕄 :=
  if l = 15 then atPos ER (recvCell c l) 0 ∅ 0
  else if l.val < r then iprop(semVal (recvCell c l) 0 ∗ pO c (sr c l) (outAt m c))
  else iprop(cred (tallyAt (recvCell c l) () NS) ∗ atPos ER (recvCell c l) 0 ∅ 0)
def Rx (r : ℕ) : sProp 𝕄 := bigSep Finset.univ fun l => rxP m c r l

def Xs : sProp 𝕄 := ((c : Thread nD τ).loc cc0_stg0_0) ↦{fullShare} xOf m c

end Pieces

/-- How many signals, loads, load waits, groups, sends, own stores, reception waits and send waits are done. -/
structure Ctr where
  sig : ℕ
  bar : Bool
  ld : ℕ
  lw : ℕ
  grp : ℕ
  tx : ℕ
  own : Bool
  rx : ℕ
  tw : ℕ

def St (K : Dev nD × CI → ℕ) (c : Dev nD) (s : Ctr) : sProp 𝕄 :=
  iprop(Rec m K ∗ Owe (F := F) c s.sig s.tx ∗ Sig (F := F) c s.sig ∗ Bar (F := F) c s.bar ∗ Ld m c s.ld s.lw ∗ Cg (F := F) c s.grp
    ∗ Tx m c s.bar s.grp s.tx s.tw ∗ Own m c s.own ∗ Rx m c s.rx ∗ Xs m c)

/-! ## Pieces taken out and put back -/

section Pieces
variable (c : Dev nD)

theorem Sig_skip (n : ℕ) (h : n = c.val) : Sig (F := F) c n ⊢ Sig (F := F) c (n + 1) := by
  refine Entails.of_eq (bigSep_congr fun p _ => ?_)
  unfold sgP
  refine if_congr ⟨fun ⟨h1, h2⟩ => ⟨?_, h2⟩, fun ⟨h1, h2⟩ => ⟨by omega, h2⟩⟩ rfl rfl
  have : p.val ≠ c.val := fun h => h2 (Fin.ext h)
  omega

theorem Sig_take (p : Dev nD) (h : p ≠ c) :
    Sig (F := F) c p.val ⊢ iprop((dutyTok ER (barCell p) 0 c ∗ ∃ f, pO (F := F) c p f) ∗ Sig (F := F) c (p.val + 1)) := by
  unfold Sig
  have hu := bigSep_univ_update (Φ := fun q => sgP (F := F) c p.val q) (Ψ := fun q => sgP (F := F) c (p.val + 1) q) p (fun q hq => by
    have : q.val ≠ p.val := fun h => hq (Fin.ext h)
    unfold sgP
    exact if_congr ⟨fun ⟨h1, h2⟩ => ⟨by omega, h2⟩, fun ⟨h1, h2⟩ => ⟨by omega, h2⟩⟩ rfl rfl)
  refine hu.trans ?_
  have e1 : sgP (F := F) c p.val p = iprop(dutyTok ER (barCell p) 0 c ∗ ∃ f, pO (F := F) c p f) := if_pos ⟨le_rfl, h⟩
  have e2 : sgP (F := F) c (p.val + 1) p = iprop(emp) := if_neg fun h => by omega
  rw [e1, e2]
  iintro ⟨H, Hw⟩
  isplitl [H]; · iexact H
  iapply Hw; iempintro

theorem Ld_start (l : Fin 16) (w : ℕ) (hw : w ≤ l.val) :
    Ld m c l.val w ⊢ iprop((dutyTok ER (loadCell c l) 0 0 ∗ atPos ER (loadCell c l) 0 ∅ 0 ∗ (∃ f, pW (F := F) c l f) ∗ pA c l (aOf m c))
      ∗ ((cred (tallyAt (loadCell c l) () NL) ∗ atPos ER (loadCell c l) 0 ∅ 0) -∗ Ld m c (l.val + 1) w)) := by
  refine (bigSep_univ_update (Φ := fun q => ldP m c l.val w q) (Ψ := fun q => ldP m c (l.val + 1) w q) l (fun q hq => ?_)).trans ?_
  · have : q.val ≠ l.val := fun h => hq (Fin.ext h)
    unfold ldP
    split; · rfl
    exact if_congr (by omega) rfl rfl
  · have e1 : ldP m c l.val w l = iprop(dutyTok ER (loadCell c l) 0 0 ∗ atPos ER (loadCell c l) 0 ∅ 0 ∗ (∃ f, pW (F := F) c l f) ∗ pA c l (aOf m c)) := by
      unfold ldP; rw [if_neg (by omega), if_neg (by omega)]
    have e2 : ldP m c (l.val + 1) w l = iprop(cred (tallyAt (loadCell c l) () NL) ∗ atPos ER (loadCell c l) 0 ∅ 0) := by
      unfold ldP; rw [if_neg (by omega), if_pos (by omega)]
    rw [e1, e2]; exact .rfl

theorem Ld_wait (l : Fin 16) (n : ℕ) (hn : l.val < n) :
    Ld m c n l.val ⊢ iprop((cred (tallyAt (loadCell c l) () NL) ∗ atPos ER (loadCell c l) 0 ∅ 0)
      ∗ ((semVal (loadCell c l) 0 ∗ pW c l (wFin m c) ∗ pA c l (aOf m c)) -∗ Ld m c n (l.val + 1))) := by
  refine (bigSep_univ_update (Φ := fun q => ldP m c n l.val q) (Ψ := fun q => ldP m c n (l.val + 1) q) l (fun q hq => ?_)).trans ?_
  · have : q.val ≠ l.val := fun h => hq (Fin.ext h)
    unfold ldP
    exact if_congr (by omega) rfl rfl
  · have e1 : ldP m c n l.val l = iprop(cred (tallyAt (loadCell c l) () NL) ∗ atPos ER (loadCell c l) 0 ∅ 0) := by
      unfold ldP; rw [if_neg (by omega), if_pos hn]
    have e2 : ldP m c n (l.val + 1) l = iprop(semVal (loadCell c l) 0 ∗ pW c l (wFin m c) ∗ pA c l (aOf m c)) := by
      unfold ldP; rw [if_pos (by omega)]
    rw [e1, e2]; exact .rfl

/-- The slots of a group. -/
def grpOf (g : Fin 4) : Finset (Fin 16) := Finset.univ.filter fun l => l.val / 4 = g.val

theorem setW_disjoint (l l' : Fin 16) (h : l ≠ l') : Disjoint (setW l) (setW l') :=
  Finset.disjoint_filter.mpr fun i _ h1 h2 => h (h1.symm.trans h2)
theorem setC_disjoint (l l' : Fin 16) (h : l ≠ l') : Disjoint (setC l) (setC l') :=
  Finset.disjoint_filter.mpr fun i _ h1 h2 => h (h1.symm.trans h2)

/-- The four loaded slots of a group, held as one. -/
theorem Ld_group (g : Fin 4) (n w : ℕ) (hw : 4 * g.val + 4 ≤ w) :
    Ld m c n w ⊢ iprop((((c : Thread nD τ).loc cc0_scratch0) ↦[(grpOf g).biUnion setW]{fullShare} wFin m c)
      ∗ ((((c : Thread nD τ).loc cc0_scratch0) ↦[(grpOf g).biUnion setW]{fullShare} wFin m c) -∗ Ld m c n w)) := by
  have e0 : Ld m c n w = iprop(bigSep (grpOf g) (fun l => ldP m c n w l) ∗ bigSep (Finset.univ \ grpOf g) (fun l => ldP m c n w l)) :=
    bigSep_sdiff_split (Finset.subset_univ _)
  have e1 : bigSep (grpOf g) (fun l => ldP m c n w l)
      = bigSep (grpOf g) (fun l => iprop(pW c l (wFin m c) ∗ (semVal (loadCell c l) 0 ∗ pA c l (aOf m c)))) :=
    bigSep_congr fun l hl => by
      have : l.val / 4 = g.val := (Finset.mem_filter.mp hl).2
      unfold ldP; rw [if_pos (by omega)]
      exact BI.equiv_iff.mp ⟨(sep_left_comm (PROP := sProp 𝕄)).mp, (sep_left_comm (PROP := sProp 𝕄)).mpr⟩
  have e2 : (((c : Thread nD τ).loc cc0_scratch0) ↦[(grpOf g).biUnion setW]{fullShare} wFin m c : sProp 𝕄)
      = bigSep (grpOf g) (fun l => pW c l (wFin m c)) := pointsTo_biUnion _ _ fun l _ l' _ h => setW_disjoint l l' h
  rw [e0, e1, bigSep_sep', e2]
  iintro ⟨⟨H1, H2⟩, H3⟩
  isplitl [H1]; · iexact H1
  iintro H1
  isplitr [H3]
  · isplitl [H1]; · iexact H1
    iexact H2
  iexact H3

theorem Cg_take (g : Fin 4) :
    Cg (F := F) c g.val ⊢ iprop((∃ f : Buf (Elt F) ((c : Thread nD τ).loc cc0_scratch1), ((c : Thread nD τ).loc cc0_scratch1) ↦[setCG g]{fullShare} f)
      ∗ Cg (F := F) c (g.val + 1)) := by
  unfold Cg
  refine (bigSep_univ_update (Φ := fun q => cgP (F := F) c g.val q) (Ψ := fun q => cgP (F := F) c (g.val + 1) q) g (fun q hq => ?_)).trans ?_
  · have : q.val ≠ g.val := fun h => hq (Fin.ext h)
    unfold cgP
    exact if_congr (by omega) rfl rfl
  · have e1 : cgP (F := F) c g.val g = iprop(∃ f : Buf (Elt F) ((c : Thread nD τ).loc cc0_scratch1), ((c : Thread nD τ).loc cc0_scratch1) ↦[setCG g]{fullShare} f) :=
      if_neg (by omega)
    have e2 : cgP (F := F) c (g.val + 1) g = iprop(emp) := if_pos (by omega)
    rw [e1, e2]
    iintro ⟨H, Hw⟩
    isplitl [H]; · iexact H
    iapply Hw; iempintro

theorem Cg_put (g : Fin 4) :
    iprop((∃ f : Buf (Elt F) ((c : Thread nD τ).loc cc0_scratch1), ((c : Thread nD τ).loc cc0_scratch1) ↦[setCG g]{fullShare} f)
      ∗ Cg (F := F) c (g.val + 1)) ⊢ Cg (F := F) c g.val := by
  unfold Cg
  refine (sep_mono_right (bigSep_univ_update (Φ := fun q => cgP (F := F) c (g.val + 1) q) (Ψ := fun q => cgP (F := F) c g.val q) g (fun q hq => ?_))).trans ?_
  · have : q.val ≠ g.val := fun h => hq (Fin.ext h)
    unfold cgP
    exact if_congr (by omega) rfl rfl
  · have e1 : cgP (F := F) c g.val g = iprop(∃ f : Buf (Elt F) ((c : Thread nD τ).loc cc0_scratch1), ((c : Thread nD τ).loc cc0_scratch1) ↦[setCG g]{fullShare} f) :=
      if_neg (by omega)
    rw [e1]
    iintro ⟨H, -, Hw⟩
    iapply Hw; iexact H

theorem setCG_eq (g : Fin 4) : setCG g = (grpOf g).biUnion setC := by
  ext i
  have h2 : (i 2).val < 512 := (i 2).isLt
  have hv : (kC i).val = 4 * (i 0).val + (i 2).val / 128 := rfl
  simp only [setCG, grpOf, setC, Finset.mem_filter, Finset.mem_univ, true_and, Finset.mem_biUnion]
  constructor
  · intro h; exact ⟨kC i, by omega, rfl⟩
  · rintro ⟨l, h, rfl⟩; omega

/-- A computed group joins the sends' pieces. -/
theorem Tx_group (g : Fin 4) (b : Bool) (t w : ℕ) (ht : t ≤ 4 * g.val) (hw : w ≤ t) :
    iprop((((c : Thread nD τ).loc cc0_scratch1) ↦[setCG g]{fullShare} cFin m c) ∗ Tx m c b g.val t w) ⊢ Tx m c b (g.val + 1) t w := by
  have e2 : (((c : Thread nD τ).loc cc0_scratch1) ↦[setCG g]{fullShare} cFin m c : sProp 𝕄)
      = bigSep Finset.univ (fun l => if l.val / 4 = g.val then pC c l (cFin m c) else iprop(emp)) := by
    rw [setCG_eq]
    refine (pointsTo_biUnion _ _ fun l _ l' _ h => setC_disjoint l l' h).trans ?_
    exact bigSep_filter _ _ _
  rw [e2]; unfold Tx; rw [← bigSep_sep']
  refine bigSep_mono fun l _ => ?_
  show (_ : sProp 𝕄) ⊢ _
  have hl := l.isLt
  by_cases h : l.val / 4 = g.val
  · unfold txP
    rw [if_pos h]
    by_cases h15 : l = 15
    · rw [if_pos h15, if_pos h15, if_neg (by omega), if_pos (by omega)]
      show (_ : sProp 𝕄) ⊢ _
      iintro ⟨H1, H2, -⟩
      isplitl [H2]; · iexact H2
      iexact H1
    · have h1 : ¬ l.val < w := by omega
      have h2 : ¬ l.val < t := by omega
      have h3 : ¬ l.val < 4 * g.val := by omega
      have h4 : l.val < 4 * (g.val + 1) := by omega
      simp only [if_neg h15, if_neg h1, if_neg h2, if_neg h3, if_pos h4]
      iintro ⟨H1, H2, H3, -⟩
      isplitl [H2]; · iexact H2
      isplitl [H3]; · iexact H3
      iexact H1
  · have e : txP m c b (g.val + 1) t w l = txP m c b g.val t w l := by
      have hg : ∀ A B : sProp 𝕄, (if l.val < 4 * (g.val + 1) then A else B) = if l.val < 4 * g.val then A else B :=
        fun A B => if_congr (by omega) rfl rfl
      unfold txP; simp only [hg]
    rw [if_neg h, e]
    iintro ⟨-, H⟩; iexact H

theorem tg_ne (l : Fin 16) : tg c l ≠ c ↔ ¬ l = 15 := by
  have hc : c.val < 16 := c.isLt
  have hl := l.isLt
  rw [Ne, Fin.ext_iff, Fin.ext_iff]
  show ¬ (c.val + l.val + 1) % 16 = c.val ↔ ¬ l.val = 15
  omega

/-- What the barrier hands over, dealt to the sends. -/
theorem Tx_bar (g : ℕ) :
    iprop((bigSep (Finset.univ.erase c) fun p => barPay (F := F) c p) ∗ Tx m c false g 0 0) ⊢ Tx m c true g 0 0 := by
  have e : (bigSep (Finset.univ.erase c) fun p => barPay (F := F) c p)
      = bigSep Finset.univ fun l => if ¬ l = 15 then barPay (F := F) c (tg c l) else iprop(emp) := by
    rw [show Finset.univ.erase c = Finset.univ.filter (fun p => p ≠ c) from by ext p; simp]
    refine (bigSep_filter _ _ _).trans ((bigSep_univ_equiv (tgE c) _).trans (bigSep_congr fun l _ => ?_))
    exact if_congr (tg_ne c l) rfl rfl
  rw [e]; unfold Tx; rw [← bigSep_sep']
  refine bigSep_mono fun l _ => ?_
  show (_ : sProp 𝕄) ⊢ _
  unfold txP barPay
  by_cases h : l = 15
  · rw [if_pos h, if_pos h, if_neg (not_not.mpr h)]
    iintro ⟨-, H⟩; iexact H
  · rw [if_neg h, if_neg h, if_pos h, if_neg (Nat.not_lt_zero _), if_neg (Nat.not_lt_zero _), if_neg (Nat.not_lt_zero _), if_neg (Nat.not_lt_zero _),
      if_neg Bool.false_ne_true, if_pos rfl]
    iintro ⟨H1, H2, -, H3⟩
    isplitl [H2]; · iexact H2
    isplitl [H1]; · iexact H1
    iexact H3

theorem Tx_start (l : Fin 16) (h : l ≠ 15) (g w : ℕ) (hg : l.val < 4 * g) (hw : w ≤ l.val) :
    Tx m c true g l.val w ⊢ iprop(((dutyTok ER (sendCell c l) 0 0 ∗ dutyTok ER (recvCell (tg c l) l) 0 0 ∗ atPos ER (sendCell c l) 0 ∅ 0)
        ∗ (∃ f, pO (F := F) (tg c l) c f) ∗ pC c l (cFin m c))
      ∗ ((cred (tallyAt (sendCell c l) () NS) ∗ atPos ER (sendCell c l) 0 ∅ 0) -∗ Tx m c true g (l.val + 1) w)) := by
  refine (bigSep_univ_update (Φ := fun q => txP m c true g l.val w q) (Ψ := fun q => txP m c true g (l.val + 1) w q) l (fun q hq => ?_)).trans ?_
  · have : q.val ≠ l.val := fun h => hq (Fin.ext h)
    unfold txP
    split; · rfl
    split; · rfl
    exact if_congr (by omega) rfl rfl
  · have e1 : txP m c true g l.val w l = iprop((dutyTok ER (sendCell c l) 0 0 ∗ dutyTok ER (recvCell (tg c l) l) 0 0 ∗ atPos ER (sendCell c l) 0 ∅ 0)
        ∗ (∃ f, pO (F := F) (tg c l) c f) ∗ pC c l (cFin m c)) := by
      unfold txP; rw [if_neg h, if_neg (by omega), if_neg (by omega), if_pos rfl, if_pos hg]
    have e2 : txP m c true g (l.val + 1) w l = iprop(cred (tallyAt (sendCell c l) () NS) ∗ atPos ER (sendCell c l) 0 ∅ 0) := by
      unfold txP; rw [if_neg h, if_neg (by omega), if_pos (by omega)]
    rw [e1, e2]; exact .rfl

theorem Tx_wait (l : Fin 16) (h : l ≠ 15) (b : Bool) (g t : ℕ) (ht : l.val < t) :
    Tx m c b g t l.val ⊢ iprop((cred (tallyAt (sendCell c l) () NS) ∗ atPos ER (sendCell c l) 0 ∅ 0)
      ∗ ((semVal (sendCell c l) 0 ∗ pC c l (cFin m c)) -∗ Tx m c b g t (l.val + 1))) := by
  refine (bigSep_univ_update (Φ := fun q => txP m c b g t l.val q) (Ψ := fun q => txP m c b g t (l.val + 1) q) l (fun q hq => ?_)).trans ?_
  · have : q.val ≠ l.val := fun h => hq (Fin.ext h)
    unfold txP
    split; · rfl
    exact if_congr (by omega) rfl rfl
  · have e1 : txP m c b g t l.val l = iprop(cred (tallyAt (sendCell c l) () NS) ∗ atPos ER (sendCell c l) 0 ∅ 0) := by
      unfold txP; rw [if_neg h, if_neg (by omega), if_pos ht]
    have e2 : txP m c b g t (l.val + 1) l = iprop(semVal (sendCell c l) 0 ∗ pC c l (cFin m c)) := by
      unfold txP; rw [if_neg h, if_pos (by omega)]
    rw [e1, e2]; exact .rfl

/-- The last slot, to be stored locally. -/
theorem Tx_last (b : Bool) (g t w : ℕ) (hg : 4 ≤ g) :
    Tx m c b g t w ⊢ iprop(pC c 15 (cFin m c) ∗ (pC c 15 (cFin m c) -∗ Tx m c b g t w)) := by
  unfold Tx
  refine (bigSep_univ_update (Φ := fun q => txP m c b g t w q) (Ψ := fun q => txP m c b g t w q) 15 (fun q hq => rfl)).trans ?_
  have e1 : txP m c b g t w 15 = iprop(atPos ER (sendCell c 15) 0 ∅ 0 ∗ pC c 15 (cFin m c)) := by
    have h : (15 : Fin 16).val < 4 * g := by show 15 < 4 * g; omega
    unfold txP; rw [if_pos rfl, if_pos h]
  rw [e1]
  iintro ⟨⟨H1, H2⟩, Hw⟩
  isplitl [H2]; · iexact H2
  iintro H2
  iapply Hw
  isplitl [H1]; · iexact H1
  iexact H2

theorem Rx_wait (l : Fin 16) (h : l ≠ 15) :
    Rx m c l.val ⊢ iprop((cred (tallyAt (recvCell c l) () NS) ∗ atPos ER (recvCell c l) 0 ∅ 0)
      ∗ ((semVal (recvCell c l) 0 ∗ pO c (sr c l) (outAt m c)) -∗ Rx m c (l.val + 1))) := by
  refine (bigSep_univ_update (Φ := fun q => rxP m c l.val q) (Ψ := fun q => rxP m c (l.val + 1) q) l (fun q hq => ?_)).trans ?_
  · have : q.val ≠ l.val := fun h => hq (Fin.ext h)
    unfold rxP
    split; · rfl
    exact if_congr (by omega) rfl rfl
  · have e1 : rxP m c l.val l = iprop(cred (tallyAt (recvCell c l) () NS) ∗ atPos ER (recvCell c l) 0 ∅ 0) := by
      unfold rxP; rw [if_neg h, if_neg (by omega)]
    have e2 : rxP m c (l.val + 1) l = iprop(semVal (recvCell c l) 0 ∗ pO c (sr c l) (outAt m c)) := by
      unfold rxP; rw [if_neg h, if_pos (by omega)]
    rw [e1, e2]; exact .rfl

end Pieces

end Cert.Scatter

end
-- ==== Proof.Steps.lean ====
/-
# One effect of the body at a time

For each kind of effect of the body, the state before it, the state after, and that a program beginning with it is
correct from the first if its rest is from the second. The windows and semaphores an effect names are variables with
equations: at each use in the body the equations say which piece and which cell the text names.
-/
module

public import proofs.«01_k».proof.Proof.State

@[expose] public section

set_option maxRecDepth 100000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Points-to at the windows -/

section Eqs
variable (c : Dev nD) (l : Fin 16)

theorem pA_win (f : Buf (Elt F) ((c : Thread nD τ).loc main_arg1)) :
    ((colsA (tg c l)).view.loc (c : Thread nD τ) ↦[(colsA (tg c l)).view.set]{fullShare} f : sProp 𝕄) = pA c l f := by
  unfold pA; rw [colsA_set]
theorem pW_win (f : Buf (Elt F) ((c : Thread nD τ).loc cc0_scratch0)) :
    ((slotW l).view.loc (c : Thread nD τ) ↦[(slotW l).view.set]{fullShare} f : sProp 𝕄) = pW c l f := by
  unfold pW; rw [slotW_set]
theorem pC_win (f : Buf (Elt F) ((c : Thread nD τ).loc cc0_scratch1)) :
    ((slotC l).view.loc (c : Thread nD τ) ↦[(slotC l).view.set]{fullShare} f : sProp 𝕄) = pC c l f := by
  unfold pC; rw [slotC_set]
theorem pO_win (d s : Dev nD) (f : Buf (Elt F) ((d : Thread nD τ).loc cc0_stg1_0)) :
    ((rowsO s).view.loc (d : Thread nD τ) ↦[(rowsO s).view.set]{fullShare} f : sProp 𝕄) = pO d s f := by
  unfold pO; rw [rowsO_set]

theorem slotW_amount : (slotW l).view.amount (.dma (dsem 0 l)) = NL := rfl
theorem rowsO_amount : (rowsO c).view.amount (.dma (dsem 2 l)) = NS := rfl

/-- What a load leaves is its cell's payload. -/
theorem load_pay (f : Buf (Elt F) ((c : Thread nD τ).loc cc0_scratch0)) :
    iprop(((slotW l).view.loc (c : Thread nD τ) ↦[(slotW l).view.set]{fullShare}
          ((slotW l).view.write (Elt F) f ((colsA (tg c l)).view.read (Elt F) (aOf m c)) Finset.univ))
        ∗ ((colsA (tg c l)).view.loc (c : Thread nD τ) ↦[(colsA (tg c l)).view.set]{fullShare} (aOf m c)))
      ⊢ (Rd m).payload (loadCell c l) 0 0 := by
  rw [payload_dma, pW_win, pA_win]
  show iprop(pW c l _ ∗ pA c l _) ⊢ iprop(pW c l (wFin m c) ∗ pA c l (aOf m c))
  have e : (pW c l ((slotW l).view.write (Elt F) f ((colsA (tg c l)).view.read (Elt F) (aOf m c)) Finset.univ) : sProp 𝕄)
      = pW c l (wFin m c) := pointsTo_congr (landW m c l f)
  rw [e]

/-- What a send leaves is the reception cell's payload. -/
theorem recv_pay (f : Buf (Elt F) ((tg c l : Thread nD τ).loc cc0_stg1_0)) :
    ((rowsO c).view.loc (tg c l : Thread nD τ) ↦[(rowsO c).view.set]{fullShare}
          ((rowsO c).view.write (Elt F) f ((slotC l).view.read (Elt F) (cFin m c)) Finset.univ) : sProp 𝕄)
      ⊢ (Rd m).payload (recvCell (tg c l) l) 0 0 := by
  rw [payload_dma, pO_win]
  show _ ⊢ pO (tg c l) (sr (tg c l) l) (outAt m (tg c l))
  rw [sr_tg]
  exact Entails.of_eq (pointsTo_congr (landO m c l f))

theorem send_pay :
    ((slotC l).view.loc (c : Thread nD τ) ↦[(slotC l).view.set]{fullShare} (cFin m c) : sProp 𝕄) ⊢ (Rd m).payload (sendCell c l) 0 0 := by
  rw [payload_dma, pC_win]; exact .rfl

end Eqs

section Steps
variable (K : Dev nD × CI → ℕ) (c : Dev nD) {α : Type}

/-- A program of device `c`, correct with the given postcondition. -/
abbrev WP (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## A wait that takes a cell's whole round and closes the cell -/

theorem wait_close {Q : α → sProp 𝕄} (ci : CI) {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ (csem ci) k' K)
    (hk : k' = (Rd m).expect (kcell (c, ci)) 0) (n t : ℕ)
    (hm : (levAts L lv : sProp 𝕄) ⊢ MayWait (c : Thread nD τ) (csem ci) () (owed c n t)) {P : sProp 𝕄}
    (hP : bigSep ((Rd m).duties (kcell (c, ci)) 0 \ ∅) (fun d => (Rd m).payload (kcell (c, ci)) 0 d) = P)
    {k : PUnit → Prog (TpuEff nD τ sig (Elt F) Λ₀ .tc) α} :
    iprop(Rec m K ∗ Owe (F := F) c n t ∗ cred (tallyAt (kcell (c, ci)) () k') ∗ atPos ER (kcell (c, ci)) 0 ∅ 0)
      ⊢ iprop(((Owe (F := F) c n t ∗ semVal (kcell (c, ci)) 0 ∗ P) -∗ WP c (k ⟨⟩) Q)
          -∗ WP c (.op w k) Q) := by
  subst hP
  have hm' : Rec m K ⊢ MayWait (c : Thread nD τ) (csem ci) () (owed c n t) := (Rec_lev m K).trans hm
  unfold Owe
  iintro ⟨#HR, ⟨%W, HO⟩, Hc, Hat⟩ Hk
  ihave #HI := (Rec_inv m K (c, ci)) $$ HR
  iapply (Rounds.wp_wait_rest_token 𝒱₀ ER (Rd m) (c : Thread nD τ) none (κ := K (c, ci)) hw (Set.mem_univ _) () (O := owed c n t) (W := W)
      (R := 0) (m := 0) (T := ∅) (sm := csem ci) (by rw [Nat.zero_add]; exact hk)) $$ [Hc HO Hat]
  · isplitr; · iexact HI
    isplitl [Hc]; · iexact Hc
    isplitl [HO]; · iexact HO
    isplitr; · iapply hm'; iexact HR
    iexact Hat
  iintro ⟨HO, Hat, -, Hpay⟩
  imod (Rounds.cell_close ER (Rd m) (Set.mem_univ (K (c, ci))) (fun h => h) (R := 0 + 1) (duties_later m (kcell (c, ci)))) $$ [Hat] with Hz
  · isplitr; · iexact HI
    iexact Hat
  iapply Hk
  isplitl [HO]; · iexists _; iexact HO
  isplitl [Hz]; · iexact Hz
  iexact Hpay

/-! ## Signals -/

variable {a : ℕ} {b : Bool} {ld lw g tx : ℕ} {o : Bool} {rx tw : ℕ}

theorem step_signal_op {Q : α → sProp 𝕄} (p : Dev nD) (hp : p ≠ c) {n : ℕ} (hn : 1 = n) {k : PUnit → Prog (TpuEff nD τ sig (Elt F) Λ₀ .tc) α}
    (h : St m K c ⟨p.val + 1, b, ld, lw, g, tx, o, rx, tw⟩ ⊢ WP c (k ⟨⟩) Q) :
    St m K c ⟨p.val, b, ld, lw, g, tx, o, rx, tw⟩ ⊢ WP c (.op (.semSignal (Dev.tc p : Thread nD τ) barS n) k) Q := by
  subst hn
  unfold St Owe
  iintro ⟨#HR, HO, HSig, HBar, HLd, HCg, HTx, HOwn, HRx, HX⟩
  icases HO with ⟨%W, HO⟩
  ihave H := (Sig_take c p hp) $$ HSig
  icases H with ⟨⟨Htok, Hp⟩, HSig⟩
  ihave #HI := (Rec_inv m K (p, none)) $$ HR
  ihave #Hr := (Rec_reached m K (p, none)) $$ HR
  iapply (Rounds.wp_signal 𝒱₀ ER (Rd m) (c : Thread nD τ) none (dst := (Dev.tc p : Thread nD τ)) (κ := K (p, none)) (r := 0)
      (d := c) (by show c ∈ (Rd m).duties (barCell p) 0; rw [duties_bar]; exact Finset.mem_erase.mpr ⟨hp.symm, Finset.mem_univ _⟩)
      (amount_bar m p c) () (owed c (p.val + 1) tx) (owed_signal c p tx hp)) $$ [HO Htok Hp]
  · isplitr; · iexact HI
    isplitl [HO]; · iexact HO
    isplitl [Htok]; · iexact Htok
    isplitl [Hp]
    · rw [payload_bar]; unfold barPay; iexact Hp
    iexact Hr
  iintro HO
  iapply h
  unfold St Owe
  isplitr; · iexact HR
  isplitl [HO]; · iexists W; iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem St_skip (p : Dev nD) (hp : p = c) :
    St m K c ⟨p.val, b, ld, lw, g, tx, o, rx, tw⟩ ⊢ St m K c ⟨p.val + 1, b, ld, lw, g, tx, o, rx, tw⟩ := by
  subst hp
  have e : owed p (p.val + 1) tx = owed p p.val tx := by unfold owed; rw [sigTodo_self]
  unfold St
  iintro ⟨#HR, HO, HSig, HBar, HLd, HCg, HTx, HOwn, HRx, HX⟩
  ihave HSig := (Sig_skip p p.val rfl) $$ HSig
  unfold Owe
  rw [e]
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-- The signal to device `p`, sent unless `p` is the device itself. -/
theorem step_signal {Q : α → sProp 𝕄} (p : Dev nD) (C : Prop) [Decidable C] (hC : C ↔ p ≠ c) (dst : C → Dev nD) (hdst : ∀ h, dst h = p) {n : ℕ} (hn : 1 = n)
    {k : PUnit → Prog (TpuEff nD τ sig (Elt F) Λ₀ .tc) α}
    (h : St m K c ⟨p.val + 1, b, ld, lw, g, tx, o, rx, tw⟩ ⊢ WP c (k ⟨⟩) Q) :
    St m K c ⟨p.val, b, ld, lw, g, tx, o, rx, tw⟩
      ⊢ WP c (if h : C then Prog.op (.semSignal (Dev.tc (dst h) : Thread nD τ) barS n) k else k ⟨⟩) Q := by
  by_cases hc : C
  · rw [dif_pos hc, hdst hc]
    exact step_signal_op m K c p (hC.mp hc) hn h
  · rw [dif_neg hc]
    exact (St_skip m K c p (not_not.mp (fun hn => hc (hC.mpr hn)))).trans h

/-! ## The barrier -/

theorem step_barrier {Q : α → sProp 𝕄} {n : ℕ} (hn : n = 15) {k : PUnit → Prog (TpuEff nD τ sig (Elt F) Λ₀ .tc) α}
    (h : St m K c ⟨16, true, ld, lw, g, 0, o, rx, 0⟩ ⊢ WP c (k ⟨⟩) Q) :
    St m K c ⟨16, false, ld, lw, g, 0, o, rx, 0⟩ ⊢ WP c (.op (.semWait barS n) k) Q := by
  subst hn
  unfold St
  iintro ⟨#HR, HO, HSig, HBar, HLd, HCg, HTx, HOwn, HRx, HX⟩
  icases (show Bar (F := F) c false ⊢ iprop(cred (tallyAt (barCell c) () 15) ∗ atPos ER (barCell c) 0 ∅ 0) from .rfl) $$ HBar with ⟨Hc, Hat⟩
  iapply (wait_close m K c none (wpE_semWait_eq 𝒱₀ (c : Thread nD τ) none Set.univ) (expect_bar m c).symm 16 0 (mayWait c _ 16 0 (.inr ⟨rfl, rfl⟩)) (rest_bar m c)) $$ [HO Hc Hat]
  · isplitr; · iexact HR
    isplitl [HO]; · iexact HO
    isplitl [Hc]; · iexact Hc
    iexact Hat
  iintro ⟨HO, Hz, Hp⟩
  ihave HTx := (Tx_bar m c g) $$ [Hp HTx]
  · isplitl [Hp]; · iexact Hp
    iexact HTx
  ihave HBar := (show semVal (kcell (c, none)) 0 ⊢ Bar (F := F) c true from .rfl) $$ Hz
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-! ## Loads -/

/-- The rule of a load at its cell. -/
theorem load_rule {Q : α → sProp 𝕄} (l : Fin 16) {hsrc : (colsA (tg c l)).view.WordExact} {hdst : (slotW l).view.WordExact}
    {hsem : DmaTarget.Typed (nD := nD) (τ := τ) (p := .tc) .hbm (.dma (dsem 0 l)) (.here (slotW l))}
    {k : PUnit → Prog (TpuEff nD τ sig (Elt F) Λ₀ .tc) α} (f : Buf (Elt F) ((c : Thread nD τ).loc cc0_scratch0)) :
    iprop(cellInv ER (Rd m) (K (c, some (0, l))) (loadCell c l) ∗ pA c l (aOf m c) ∗ pW c l f
        ∗ dutyTok ER (loadCell c l) 0 0 ∗ reached ER (loadCell c l) 0)
      ⊢ iprop((cred (tallyAt (loadCell c l) () NL) -∗ WP c (k ⟨⟩) Q)
          -∗ WP c (.op (.enqueueDma (colsA (tg c l)) (.here (slotW l)) (.dma (dsem 0 l)) hsrc hdst hsem) k) Q) := by
  rw [← pA_win, ← pW_win]
  exact Rounds.wp_copy_pointsTo 𝒱₀ ER (Rd m) (c : Thread nD τ) none (κ := K (c, some (0, l))) (r := 0) (d := 0)
      (mem_duties_dma m c 0 l (.inl rfl)) () NL (slotW_amount l) (amount_dma m c 0 l 0) (load_pay m c l f)

theorem step_load {Q : α → sProp 𝕄} (l : Fin 16) {src : Memref sig .tc .hbm S2048x128 .f32} {dst : Memref sig .tc .vmem S2048x128 .f32} {sem : SemLoc sig}
    {hsrc : src.view.WordExact} {hdst : dst.view.WordExact} {hsem : DmaTarget.Typed (nD := nD) (τ := τ) (p := .tc) .hbm sem (.here dst)}
    {k : PUnit → Prog (TpuEff nD τ sig (Elt F) Λ₀ .tc) α}
    (e1 : src = colsA (tg c l)) (e2 : dst = slotW l) (e3 : sem = .dma (dsem 0 l)) (hw : lw ≤ l.val)
    (h : St m K c ⟨a, b, l.val + 1, lw, g, tx, o, rx, tw⟩ ⊢ WP c (k ⟨⟩) Q) :
    St m K c ⟨a, b, l.val, lw, g, tx, o, rx, tw⟩ ⊢ WP c (.op (.enqueueDma src (.here dst) sem hsrc hdst hsem) k) Q := by
  subst e1 e2 e3
  unfold St
  iintro ⟨#HR, HO, HSig, HBar, HLd, HCg, HTx, HOwn, HRx, HX⟩
  icases (Ld_start m c l lw hw) $$ HLd with ⟨⟨Htok, Hat, ⟨%f, HW⟩, HA⟩, HLd⟩
  ihave #HI := (Rec_inv m K (c, some (0, l))) $$ HR
  ihave #Hr := (Rec_reached m K (c, some (0, l))) $$ HR
  iapply (load_rule m K c l f) $$ [Htok HW HA]
  · isplitr; · iexact HI
    isplitl [HA]; · iexact HA
    isplitl [HW]; · iexact HW
    isplitl [Htok]; · iexact Htok
    iexact Hr
  iintro Hc
  ihave HLd := HLd $$ [Hc Hat]
  · isplitl [Hc]; · iexact Hc
    iexact Hat
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem step_load_wait {Q : α → sProp 𝕄} (l : Fin 16) {src : Memref sig .tc .hbm S2048x128 .f32} {dst : Memref sig .tc .vmem S2048x128 .f32} {sem : DmaSem sig}
    {hsrc : src.view.WordExact} {hdst : dst.view.WordExact}
    {k : PUnit → Prog (TpuEff nD τ sig (Elt F) Λ₀ .tc) α}
    (e3 : sem = dsem 0 l) (e4 : dst.view.dmaCredit = NL) (hl : l.val < ld)
    (h : St m K c ⟨a, b, ld, l.val + 1, g, tx, o, rx, tw⟩ ⊢ WP c (k ⟨⟩) Q) :
    St m K c ⟨a, b, ld, l.val, g, tx, o, rx, tw⟩ ⊢ WP c (.op (.waitDma2 sem src dst hsrc hdst) k) Q := by
  subst e3
  unfold St
  iintro ⟨#HR, HO, HSig, HBar, HLd, HCg, HTx, HOwn, HRx, HX⟩
  icases (Ld_wait m c l ld hl) $$ HLd with ⟨⟨Hc, Hat⟩, HLd⟩
  iapply (wait_close m K c (some (0, l)) (wpE_waitDma2_eq 𝒱₀ (c : Thread nD τ) none Set.univ)
      (e4.trans (expect_dma m c 0 l (.inl rfl)).symm) a tx (mayWait c _ a tx (.inl (lvl_dsem 0 l))) (P := iprop(pW c l (wFin m c) ∗ pA c l (aOf m c))) (rest_dma m c 0 l (.inl rfl))) $$ [HO Hc Hat]
  · isplitr; · iexact HR
    isplitl [HO]; · iexact HO
    isplitl [Hc]; · rw [e4]; iexact Hc
    iexact Hat
  iintro ⟨HO, Hz, Hp⟩
  ihave HLd := HLd $$ [Hz Hp]
  · isplitl [Hz]; · iexact Hz
    iexact Hp
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-! ## Computing a group -/

theorem step_x {Q : α → sProp 𝕄} {k : (S128x2048.Idx → Elt F .f32) → Prog (TpuEff nD τ sig (Elt F) Λ₀ .tc) α} {inb : ∀ a : Fin 2, (![0, 0] : Fin 2 → ℕ) a + S128x2048.size a ≤ S128x2048.size a}
    {hl : xM.view.LoadsAt (Rect.unit (s := S128x2048) ![0, 0] S128x2048.size inb).toLoadRect}
    (h : St m K c ⟨a, b, ld, lw, g, tx, o, rx, tw⟩ ⊢ WP c (k (xOf m c)) Q) :
    St m K c ⟨a, b, ld, lw, g, tx, o, rx, tw⟩ ⊢ WP c (.op (.load xM (Rect.unit (s := S128x2048) ![0, 0] S128x2048.size inb).toLoadRect hl) k) Q := by
  unfold St
  iintro ⟨#HR, HO, HSig, HBar, HLd, HCg, HTx, HOwn, HRx, HX⟩
  unfold Xs
  iapply (wp_load 𝒱₀ (c : Thread nD τ) none Set.univ (m := xM) (Finset.subset_univ _)) $$ HX; iintro HX
  rw [readX]
  iapply h
  unfold St Xs
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem grpOf_setW (g : Fin 4) : (grpOf g).biUnion setW = setWG g := by
  ext i
  have h2 : (i 2).val < 512 := (i 2).isLt
  have hv : (kW i).val = 4 * (i 0).val + (i 2).val / 128 := rfl
  simp only [setWG, grpOf, setW, Finset.mem_filter, Finset.mem_univ, true_and, Finset.mem_biUnion]
  constructor
  · rintro ⟨l, h, rfl⟩; omega
  · intro h; exact ⟨kW i, by omega, rfl⟩

theorem setWG_sub (j : Fin 4) : (wM : Memref sig .tc .vmem S4x2048x512 .f32).view.setOn (rWG j).toLoadRect.set ⊆ (grpOf j).biUnion setW := by
  have e : ((wM : Memref sig .tc .vmem S4x2048x512 .f32).access (rWG j)).set = setWG j := by
    show ((View.whole cc0_scratch0).slice (rWG j)).set = _
    rw [View.set_slice_whole]
    ext i; rw [mem_rWG]; simp [setWG]
  rw [grpOf_setW, ← e]
  exact (View.set_slice _ _).symm.subset

theorem step_load_group {Q : α → sProp 𝕄} (j : Fin 4) {k : (S1x2048x512.Idx → Elt F .f32) → Prog (TpuEff nD τ sig (Elt F) Λ₀ .tc) α}
    {hl : wM.view.LoadsAt (rWG j).toLoadRect} (hw : 4 * j.val + 4 ≤ lw)
    (h : St m K c ⟨a, b, ld, lw, g, tx, o, rx, tw⟩ ⊢ WP c (k (wGrp m c j)) Q) :
    St m K c ⟨a, b, ld, lw, g, tx, o, rx, tw⟩ ⊢ WP c (.op (.load wM (rWG j).toLoadRect hl) k) Q := by
  unfold St
  iintro ⟨#HR, HO, HSig, HBar, HLd, HCg, HTx, HOwn, HRx, HX⟩
  icases (Ld_group m c j ld lw hw) $$ HLd with ⟨HW, HLd⟩
  iapply (wp_load 𝒱₀ (c : Thread nD τ) none Set.univ (m := wM) (setWG_sub j)) $$ HW; iintro HW
  rw [readWG]
  ihave HLd := HLd $$ HW
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem rCG_set (j : Fin 4) : ((cM : Memref sig .tc .vmem S4x128x512 .bf16).access (rCG j)).set = setCG j := by
  show ((View.whole cc0_scratch1).slice (rCG j)).set = _
  rw [View.set_slice_whole]
  ext i; rw [mem_rCG]; simp [setCG]

/-- A load of the outgoing buffer's group before it is stored, what it reads not used. -/
theorem step_peek_group {Q : α → sProp 𝕄} (j : Fin 4) {k : (S1x128x512.Idx → Elt F .bf16) → Prog (TpuEff nD τ sig (Elt F) Λ₀ .tc) α}
    {hl : cM.view.LoadsAt (rCG j).toLoadRect} (hg : g = j.val)
    (h : ∀ v, St m K c ⟨a, b, ld, lw, g, tx, o, rx, tw⟩ ⊢ WP c (k v) Q) :
    St m K c ⟨a, b, ld, lw, g, tx, o, rx, tw⟩ ⊢ WP c (.op (.load cM (rCG j).toLoadRect hl) k) Q := by
  subst hg
  have hput : iprop((∃ f : Buf (Elt F) ((c : Thread nD τ).loc cc0_scratch1), ((c : Thread nD τ).loc cc0_scratch1) ↦[setCG j]{fullShare} f)
      ∗ Cg (F := F) c (j.val + 1)) ⊢ Cg (F := F) c j.val := Cg_put c j
  unfold St
  iintro ⟨#HR, HO, HSig, HBar, HLd, HCg, HTx, HOwn, HRx, HX⟩
  icases (Cg_take c j) $$ HCg with ⟨⟨%f, HC⟩, HCg⟩
  iapply (wp_load 𝒱₀ (c : Thread nD τ) none Set.univ (m := cM) (((View.set_slice _ _).symm.trans (rCG_set j)).subset)) $$ HC; iintro HC
  ihave HCg := hput $$ [HC HCg]
  · isplitl [HC]; · iexists f; iexact HC
    iexact HCg
  iapply (h _)
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem step_store_group {Q : α → sProp 𝕄} (j : Fin 4) {w : S1x128x512.Idx → Elt F .bf16} {k : PUnit → Prog (TpuEff nD τ sig (Elt F) Λ₀ .tc) α}
    {hx : (cM.access (rCG j)).Stores Finset.univ} {hm} (ew : w = cGrp m c j) (ht : tx ≤ 4 * j.val) (htw : tw ≤ tx)
    (h : St m K c ⟨a, b, ld, lw, j.val + 1, tx, o, rx, tw⟩ ⊢ WP c (k ⟨⟩) Q) :
    St m K c ⟨a, b, ld, lw, j.val, tx, o, rx, tw⟩ ⊢ WP c (.op (.store cM (rCG j) w Finset.univ hx hm) k) Q := by
  subst ew
  unfold St
  iintro ⟨#HR, HO, HSig, HBar, HLd, HCg, HTx, HOwn, HRx, HX⟩
  icases (Cg_take c j) $$ HCg with ⟨⟨%f, HC⟩, HCg⟩
  iapply (wp_store 𝒱₀ (c : Thread nD τ) none Set.univ (m := cM) (r := rCG j) (Mk := Finset.univ) ((rCG_set j).subset)) $$ HC; iintro HC
  ihave HC := (Entails.of_eq (pointsTo_congr (writeCG m c j f))) $$ HC
  ihave HTx := (Tx_group m c j b tx tw ht htw) $$ [HC HTx]
  · isplitl [HC]; · iexact HC
    iexact HTx
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-! ## Sends -/

/-- The rule of a send at its two cells. -/
theorem send_rule {Q : α → sProp 𝕄} (l : Fin 16) (hl : l ≠ 15) (n : Dev nD) (hn : n = tg c l)
    {hsc : (rowsO c : Memref sig (Dev.tc n : Thread nD τ).2.kind .vmem S128x128 .bf16).view.ref.isScScratch = false}
    {hsrc : (slotC l).view.WordExact} {hdst : (rowsO c).view.WordExact}
    {hsem : DmaTarget.Typed .vmem (.dma (dsem 2 l)) (.remote (Dev.tc n : Thread nD τ) (rowsO c : Memref sig .tc .vmem S128x128 .bf16) (.dma (dsem 1 l)) hsc)}
    {k : PUnit → Prog (TpuEff nD τ sig (Elt F) Λ₀ .tc) α} (a : ℕ) (W : Waits sig Unit) (f : Buf (Elt F) ((tg c l : Thread nD τ).loc cc0_stg1_0)) :
    iprop(cellInv ER (Rd m) (K (c, some (1, l))) (sendCell c l) ∗ cellInv ER (Rd m) (K (tg c l, some (2, l))) (recvCell (tg c l) l)
        ∗ pC c l (cFin m c) ∗ pO (tg c l) c f ∗ owes (c : Thread nD τ) (owed c a l.val) W
        ∗ dutyTok ER (sendCell c l) 0 0 ∗ reached ER (sendCell c l) 0
        ∗ dutyTok ER (recvCell (tg c l) l) 0 0 ∗ reached ER (recvCell (tg c l) l) 0)
      ⊢ iprop(((cred (tallyAt (sendCell c l) () NS) ∗ owes (c : Thread nD τ) (owed c a (l.val + 1)) W) -∗ WP c (k ⟨⟩) Q)
          -∗ WP c (.op (.enqueueDma (slotC l) (.remote (Dev.tc n : Thread nD τ) (rowsO c) (.dma (dsem 1 l)) hsc) (.dma (dsem 2 l)) hsrc hdst hsem) k) Q) := by
  subst hn
  rw [← pC_win, ← pO_win]
  exact Rounds.wp_send_pointsTo 𝒱₀ ER (Rd m) (c : Thread nD τ) none (κ₁ := K (c, some (1, l))) (κ₂ := K (tg c l, some (2, l)))
    (r₁ := 0) (r₂ := 0) (d₁ := 0) (d₂ := 0) (fd := f)
    (mem_duties_dma m c 1 l (.inr hl)) (mem_duties_dma m (tg c l) 2 l (.inr hl)) () () NS (rowsO_amount c l) (amount_dma m c 1 l 0)
    (amount_dma m (tg c l) 2 l 0) (owed c a (l.val + 1)) (owed_send c a l hl) (W := W) (send_pay m c l) (recv_pay m c l f)

theorem step_send {Q : α → sProp 𝕄} (l : Fin 16) (hl : l ≠ 15) {n : Dev nD} {src dst : Memref sig .tc .vmem S128x128 .bf16} {sS sR : SemLoc sig}
    {hsc : (dst : Memref sig (Dev.tc n : Thread nD τ).2.kind .vmem S128x128 .bf16).view.ref.isScScratch = false}
    {hsrc : src.view.WordExact} {hdst : dst.view.WordExact}
    {hsem : DmaTarget.Typed .vmem sR (.remote (Dev.tc n : Thread nD τ) (dst : Memref sig .tc .vmem S128x128 .bf16) sS hsc)}
    {k : PUnit → Prog (TpuEff nD τ sig (Elt F) Λ₀ .tc) α}
    (hn : n = tg c l) (e1 : src = slotC l) (e2 : dst = rowsO c) (e3 : sS = .dma (dsem 1 l)) (e4 : sR = .dma (dsem 2 l))
    (hg : l.val < 4 * g) (hw : tw ≤ l.val)
    (h : St m K c ⟨a, true, ld, lw, g, l.val + 1, o, rx, tw⟩ ⊢ WP c (k ⟨⟩) Q) :
    St m K c ⟨a, true, ld, lw, g, l.val, o, rx, tw⟩
      ⊢ WP c (.op (.enqueueDma src (.remote (Dev.tc n : Thread nD τ) dst sS hsc) sR hsrc hdst hsem) k) Q := by
  subst e1 e2 e3 e4
  unfold St Owe
  iintro ⟨#HR, HO, HSig, HBar, HLd, HCg, HTx, HOwn, HRx, HX⟩
  icases HO with ⟨%W, HO⟩
  icases (Tx_start m c l hl g tw hg hw) $$ HTx with ⟨⟨⟨Ht1, Ht2, Hat⟩, ⟨%f, Hf⟩, HC⟩, HTx⟩
  ihave #HI1 := (Rec_inv m K (c, some (1, l))) $$ HR
  ihave #Hr1 := (Rec_reached m K (c, some (1, l))) $$ HR
  ihave #HI2 := (Rec_inv m K (tg c l, some (2, l))) $$ HR
  ihave #Hr2 := (Rec_reached m K (tg c l, some (2, l))) $$ HR
  iapply (send_rule m K c l hl n hn a W f) $$ [Ht1 Ht2 Hf HC HO]
  · isplitr; · iexact HI1
    isplitr; · iexact HI2
    isplitl [HC]; · iexact HC
    isplitl [Hf]; · iexact Hf
    isplitl [HO]; · iexact HO
    isplitl [Ht1]; · iexact Ht1
    isplitr; · iexact Hr1
    isplitl [Ht2]; · iexact Ht2
    iexact Hr2
  iintro ⟨Hc, HO⟩
  ihave HTx := HTx $$ [Hc Hat]
  · isplitl [Hc]; · iexact Hc
    iexact Hat
  iapply h
  unfold St Owe
  isplitr; · iexact HR
  isplitl [HO]; · iexists W; iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem step_send_wait {Q : α → sProp 𝕄} (l : Fin 16) (hl : l ≠ 15) {src dst : Memref sig .tc .vmem S128x128 .bf16} {sem : DmaSem sig}
    {hsrc : src.view.WordExact} {hdst : dst.view.WordExact}
    {k : PUnit → Prog (TpuEff nD τ sig (Elt F) Λ₀ .tc) α}
    (e3 : sem = dsem 1 l) (e4 : dst.view.dmaCredit = NS) (ht : l.val < tx)
    (h : St m K c ⟨a, b, ld, lw, g, tx, o, rx, l.val + 1⟩ ⊢ WP c (k ⟨⟩) Q) :
    St m K c ⟨a, b, ld, lw, g, tx, o, rx, l.val⟩ ⊢ WP c (.op (.waitDma2 sem src dst hsrc hdst) k) Q := by
  subst e3
  unfold St
  iintro ⟨#HR, HO, HSig, HBar, HLd, HCg, HTx, HOwn, HRx, HX⟩
  icases (Tx_wait m c l hl b g tx ht) $$ HTx with ⟨⟨Hc, Hat⟩, HTx⟩
  iapply (wait_close m K c (some (1, l)) (wpE_waitDma2_eq 𝒱₀ (c : Thread nD τ) none Set.univ)
      (e4.trans (expect_dma m c 1 l (.inr hl)).symm) a tx (mayWait c _ a tx (.inl (lvl_dsem 1 l))) (P := pC c l (cFin m c)) (rest_dma m c 1 l (.inr hl))) $$ [HO Hc Hat]
  · isplitr; · iexact HR
    isplitl [HO]; · iexact HO
    isplitl [Hc]; · rw [e4]; iexact Hc
    iexact Hat
  iintro ⟨HO, Hz, Hp⟩
  ihave HTx := HTx $$ [Hz Hp]
  · isplitl [Hz]; · iexact Hz
    iexact Hp
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-! ## Receptions -/

theorem step_recv_wait {Q : α → sProp 𝕄} (l : Fin 16) (hl : l ≠ 15) {src dst : Memref sig .tc .vmem S128x128 .bf16} {sem : DmaSem sig}
    {hsrc : src.view.WordExact} {hdst : dst.view.WordExact}
    {k : PUnit → Prog (TpuEff nD τ sig (Elt F) Λ₀ .tc) α}
    (e3 : sem = dsem 2 l) (e4 : dst.view.dmaCredit = NS)
    (h : St m K c ⟨16, b, ld, lw, g, 15, o, l.val + 1, tw⟩ ⊢ WP c (k ⟨⟩) Q) :
    St m K c ⟨16, b, ld, lw, g, 15, o, l.val, tw⟩ ⊢ WP c (.op (.waitDma2 sem src dst hsrc hdst) k) Q := by
  subst e3
  unfold St
  iintro ⟨#HR, HO, HSig, HBar, HLd, HCg, HTx, HOwn, HRx, HX⟩
  icases (Rx_wait m c l hl) $$ HRx with ⟨⟨Hc, Hat⟩, HRx⟩
  iapply (wait_close m K c (some (2, l)) (wpE_waitDma2_eq 𝒱₀ (c : Thread nD τ) none Set.univ)
      (e4.trans (expect_dma m c 2 l (.inr hl)).symm) 16 15 (mayWait_done c _) (P := pO c (sr c l) (outAt m c)) (rest_dma m c 2 l (.inr hl))) $$ [HO Hc Hat]
  · isplitr; · iexact HR
    isplitl [HO]; · iexact HO
    isplitl [Hc]; · rw [e4]; iexact Hc
    iexact Hat
  iintro ⟨HO, Hz, Hp⟩
  ihave HRx := HRx $$ [Hz Hp]
  · isplitl [Hz]; · iexact Hz
    iexact Hp
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

/-! ## The device's own block -/

theorem rC_sub (l : Fin 16) : (cM : Memref sig .tc .vmem S4x128x512 .bf16).view.setOn (rC l).toLoadRect.set ⊆ setC l := by
  have e : ((cM : Memref sig .tc .vmem S4x128x512 .bf16).access (rC l)).set = setC l := by
    show ((View.whole cc0_scratch1).slice (rC l)).set = _
    rw [View.set_slice_whole]
    ext i; rw [mem_rC]; simp [setC]
  rw [← e]
  exact (View.set_slice _ _).symm.subset
theorem rO_set (d : Dev nD) : ((oM : Memref sig .tc .vmem S2048x128 .bf16).access (rO d)).set = setO d := by
  show ((View.whole cc0_stg1_0).slice (rO d)).set = _
  rw [View.set_slice_whole]
  ext i; rw [mem_rO]; simp [setO]

theorem step_load_own {Q : α → sProp 𝕄} {k : (S1x128x128.Idx → Elt F .bf16) → Prog (TpuEff nD τ sig (Elt F) Λ₀ .tc) α}
    {hl : cM.view.LoadsAt (rC 15).toLoadRect} (hg : 4 ≤ g)
    (h : St m K c ⟨a, b, ld, lw, g, tx, o, rx, tw⟩ ⊢ WP c (k (cM.view.readAt (Elt F) (rC 15).toLoadRect (cFin m c))) Q) :
    St m K c ⟨a, b, ld, lw, g, tx, o, rx, tw⟩ ⊢ WP c (.op (.load cM (rC 15).toLoadRect hl) k) Q := by
  unfold St
  iintro ⟨#HR, HO, HSig, HBar, HLd, HCg, HTx, HOwn, HRx, HX⟩
  icases (Tx_last m c b g tx tw hg) $$ HTx with ⟨HC, HTx⟩
  unfold pC
  iapply (wp_load 𝒱₀ (c : Thread nD τ) none Set.univ (m := cM) (rC_sub 15)) $$ HC; iintro HC
  ihave HTx := HTx $$ HC
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem step_peek_own {Q : α → sProp 𝕄} {off : Fin 2 → ℕ} {inb : ∀ i : Fin 2, off i + S128x128.size i ≤ S2048x128.size i}
    {k : (S128x128.Idx → Elt F .bf16) → Prog (TpuEff nD τ sig (Elt F) Λ₀ .tc) α}
    {hl : oM.view.LoadsAt (Rect.unit (s := S2048x128) off S128x128.size inb).toLoadRect} (e : off = ![128 * c.val, 0])
    (h : ∀ v, St m K c ⟨a, b, ld, lw, g, tx, false, rx, tw⟩ ⊢ WP c (k v) Q) :
    St m K c ⟨a, b, ld, lw, g, tx, false, rx, tw⟩ ⊢ WP c (.op (.load oM (Rect.unit (s := S2048x128) off S128x128.size inb).toLoadRect hl) k) Q := by
  subst e
  have hopen : Own m c false ⊢ iprop(∃ f, pO (F := F) c c f) := .rfl
  have hshut : iprop(∃ f, pO (F := F) c c f) ⊢ Own m c false := .rfl
  unfold St
  iintro ⟨#HR, HO, HSig, HBar, HLd, HCg, HTx, HOwn, HRx, HX⟩
  ihave HOwn := hopen $$ HOwn
  icases HOwn with ⟨%f, HC⟩
  unfold pO
  iapply (wp_load 𝒱₀ (c : Thread nD τ) none Set.univ (m := oM) (((View.set_slice _ _).symm.trans (rO_set c)).subset)) $$ HC; iintro HC
  ihave HOwn := hshut $$ [HC]
  · iexists f; unfold pO; iexact HC
  iapply (h _)
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

theorem step_store_own {Q : α → sProp 𝕄} {off : Fin 2 → ℕ} {inb : ∀ i : Fin 2, off i + S128x128.size i ≤ S2048x128.size i}
    {w : S128x128.Idx → Elt F .bf16} {k : PUnit → Prog (TpuEff nD τ sig (Elt F) Λ₀ .tc) α}
    {hx : (oM.access (Rect.unit (s := S2048x128) off S128x128.size inb)).Stores Finset.univ} {hm} (e : off = ![128 * c.val, 0])
    (ew : w = k0_pay6 (cM.view.readAt (Elt F) (rC 15).toLoadRect (cFin m c)))
    (h : St m K c ⟨a, b, ld, lw, g, tx, true, rx, tw⟩ ⊢ WP c (k ⟨⟩) Q) :
    St m K c ⟨a, b, ld, lw, g, tx, false, rx, tw⟩ ⊢ WP c (.op (.store oM (Rect.unit (s := S2048x128) off S128x128.size inb) w Finset.univ hx hm) k) Q := by
  subst e ew
  have hopen : Own m c false ⊢ iprop(∃ f, pO (F := F) c c f) := .rfl
  have hshut : pO c c (outAt m c) ⊢ Own m c true := .rfl
  unfold St
  iintro ⟨#HR, HO, HSig, HBar, HLd, HCg, HTx, HOwn, HRx, HX⟩
  ihave HOwn := hopen $$ HOwn
  icases HOwn with ⟨%f, HC⟩
  unfold pO
  iapply (wp_store 𝒱₀ (c : Thread nD τ) none Set.univ (m := oM) (r := rO c) (Mk := Finset.univ) ((rO_set c).subset)) $$ HC; iintro HC
  ihave HC := (Entails.of_eq (pointsTo_congr (writeOwn m c f))) $$ HC
  ihave HOwn := hshut $$ [HC]
  · unfold pO; iexact HC
  iapply h
  unfold St
  isplitr; · iexact HR
  isplitl [HO]; · iexact HO
  isplitl [HSig]; · iexact HSig
  isplitl [HBar]; · iexact HBar
  isplitl [HLd]; · iexact HLd
  isplitl [HCg]; · iexact HCg
  isplitl [HTx]; · iexact HTx
  isplitl [HOwn]; · iexact HOwn
  isplitl [HRx]; · iexact HRx
  iexact HX

end Steps

end Cert.Scatter

end
-- ==== Proof.Parts.lean ====
/-
# The printed parts of the body, first nine

The body is printed in twenty-five parts. For each of them: from the state it finds, with whatever follows it correct
from the state it leaves, it is correct. This module takes the first nine, up to the sends of the first group.
-/
module

public import proofs.«01_k».proof.Proof.Steps
public import proofs.«01_k».proof.Proof.Gen.KernelIdeal.Skeleton

@[expose] public section

set_option maxRecDepth 100000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the parts' windows are -/

theorem colsA_of {off : Fin 2 → ℕ} {d : Dev nD} (e : off = ![0, 128 * d.val])
    (h : ∀ a, off a + S2048x128.size a ≤ S2048x2048.size a) :
    aM.slice (Rect.unit (s := S2048x2048) off S2048x128.size h) (fun _ => rfl) = colsA d := by
  subst e; rfl

theorem rowsO_of {off : Fin 2 → ℕ} {d : Dev nD} (e : off = ![128 * d.val, 0])
    (h : ∀ a, off a + S128x128.size a ≤ S2048x128.size a) :
    oM.slice (Rect.unit (s := S2048x128) off S128x128.size h) (fun _ => rfl) = rowsO d := by
  subst e; rfl

/-- A part applied to the buffers and semaphores of the launch. -/
abbrev onArgs {β : Type 1} (f : (a0 : Memref sig .tc .vmem S128x2048 .f32) → a0.IsWhole →
      (a1 : Memref sig .tc .hbm S2048x2048 .f32) → a1.IsWhole →
      (a2 : Memref sig .tc .vmem S2048x128 .bf16) → a2.IsWhole →
      (a3 : Memref sig .tc .vmem S4x2048x512 .f32) → a3.IsWhole →
      (a4 : Memref sig .tc .vmem S4x128x512 .bf16) → a4.IsWhole →
      DmaSems sig S16 → DmaSems sig S16 → DmaSems sig S16 → β) : β :=
  f xM (Memref.isWhole_whole _) aM (Memref.isWhole_whole _) oM (Memref.isWhole_whole _) wM (Memref.isWhole_whole _)
    cM (Memref.isWhole_whole _) cc0_scratch2 cc0_scratch3 cc0_scratch4

section Parts

variable (K : Dev nD × CI → ℕ) (c : Dev nD)

theorem step_ret {α : Type} {Q : α → sProp 𝕄} {P : sProp 𝕄} {v : α} (h : P ⊢ Q v) : P ⊢ WP c (.ret v) Q := by
  unfold WP; rw [wp_ret]; iintro H; imodintro; iapply h; iexact H

theorem tg_of (l : Fin 16) {n k : ℕ} (e : n = (c.val + k) % 16) (hk : k = l.val + 1) (hn : n < nD) : (⟨n, hn⟩ : Dev nD) = tg c l := by
  apply Fin.ext
  rw [tg_val]
  show n = _
  rw [e, hk, Nat.add_assoc]

/-! ## The signals and the barrier -/

set_option maxHeartbeats 4000000 in
theorem part1 {Q : (Σ' (_ : Dev nD) (_ : BitVec 32), Sems sig S_) → sProp 𝕄}
    (h : ∀ v2, St m K c ⟨8, false, 0, 0, 0, 0, false, 0, 0⟩ ⊢ Q ⟨c, v2, SemArray.scalar (sig.barrier 0 rfl)⟩) :
    St m K c ⟨0, false, 0, 0, 0, 0, false, 0, 0⟩ ⊢ WP c (onArgs (k0_part1 (F := F))) Q := by
  unfold onArgs
  rw [k0_part1_eq_skeleton]; unfold k0_part1_skel
  simp only [semSignalWord, semWaitWord, wp_bind, wp_deviceId, Prog.lift, Prog.bind_op, Prog.bind_ret, Prog.pure_eq_ret]
  refine step_signal m K c (p := 0) _ ((by decide : ∀ d : Dev nD, k0_cond1 d = 1#1 ↔ (0 : Dev nD) ≠ d) c) _ (fun _ => rfl) (by decide) ?_
  refine step_signal m K c (p := 1) _ ((by decide : ∀ d : Dev nD, k0_cond2 d = 1#1 ↔ (1 : Dev nD) ≠ d) c) _ (fun _ => rfl) (by decide) ?_
  refine step_signal m K c (p := 2) _ ((by decide : ∀ d : Dev nD, k0_cond3 d = 1#1 ↔ (2 : Dev nD) ≠ d) c) _ (fun _ => rfl) (by decide) ?_
  refine step_signal m K c (p := 3) _ ((by decide : ∀ d : Dev nD, k0_cond4 d = 1#1 ↔ (3 : Dev nD) ≠ d) c) _ (fun _ => rfl) (by decide) ?_
  refine step_signal m K c (p := 4) _ ((by decide : ∀ d : Dev nD, k0_cond5 d = 1#1 ↔ (4 : Dev nD) ≠ d) c) _ (fun _ => rfl) (by decide) ?_
  refine step_signal m K c (p := 5) _ ((by decide : ∀ d : Dev nD, k0_cond6 d = 1#1 ↔ (5 : Dev nD) ≠ d) c) _ (fun _ => rfl) (by decide) ?_
  refine step_signal m K c (p := 6) _ ((by decide : ∀ d : Dev nD, k0_cond7 d = 1#1 ↔ (6 : Dev nD) ≠ d) c) _ (fun _ => rfl) (by decide) ?_
  refine step_signal m K c (p := 7) _ ((by decide : ∀ d : Dev nD, k0_cond8 d = 1#1 ↔ (7 : Dev nD) ≠ d) c) _ (fun _ => rfl) (by decide) ?_
  exact step_ret c (h _)

set_option maxHeartbeats 4000000 in
theorem part2 {Q : PUnit → sProp 𝕄} (v2 : BitVec 32)
    (h : St m K c ⟨16, true, 0, 0, 0, 0, false, 0, 0⟩ ⊢ Q ⟨⟩) :
    St m K c ⟨8, false, 0, 0, 0, 0, false, 0, 0⟩ ⊢ WP c (onArgs (k0_part2 (F := F)) c v2 (SemArray.scalar (sig.barrier 0 rfl))) Q := by
  unfold onArgs
  rw [k0_part2_eq_skeleton]; unfold k0_part2_skel
  simp only [semSignalWord, semWaitWord, wp_bind, wp_deviceId, Prog.lift, Prog.bind_op, Prog.bind_ret, Prog.pure_eq_ret]
  refine step_signal m K c (p := 8) _ ((by decide : ∀ d : Dev nD, k0_cond9 d = 1#1 ↔ (8 : Dev nD) ≠ d) c) _ (fun _ => rfl) (by decide) ?_
  refine step_signal m K c (p := 9) _ ((by decide : ∀ d : Dev nD, k0_cond10 d = 1#1 ↔ (9 : Dev nD) ≠ d) c) _ (fun _ => rfl) (by decide) ?_
  refine step_signal m K c (p := 10) _ ((by decide : ∀ d : Dev nD, k0_cond11 d = 1#1 ↔ (10 : Dev nD) ≠ d) c) _ (fun _ => rfl) (by decide) ?_
  refine step_signal m K c (p := 11) _ ((by decide : ∀ d : Dev nD, k0_cond12 d = 1#1 ↔ (11 : Dev nD) ≠ d) c) _ (fun _ => rfl) (by decide) ?_
  refine step_signal m K c (p := 12) _ ((by decide : ∀ d : Dev nD, k0_cond13 d = 1#1 ↔ (12 : Dev nD) ≠ d) c) _ (fun _ => rfl) (by decide) ?_
  refine step_signal m K c (p := 13) _ ((by decide : ∀ d : Dev nD, k0_cond14 d = 1#1 ↔ (13 : Dev nD) ≠ d) c) _ (fun _ => rfl) (by decide) ?_
  refine step_signal m K c (p := 14) _ ((by decide : ∀ d : Dev nD, k0_cond15 d = 1#1 ↔ (14 : Dev nD) ≠ d) c) _ (fun _ => rfl) (by decide) ?_
  refine step_signal m K c (p := 15) _ ((by decide : ∀ d : Dev nD, k0_cond16 d = 1#1 ↔ (15 : Dev nD) ≠ d) c) _ (fun _ => rfl) (by decide) ?_
  refine step_barrier m K c (by decide) ?_
  exact step_ret c h

/-! ## The loads are started -/

theorem part3 {Q : PUnit → sProp 𝕄} (v2 : BitVec 32)
    (h : St m K c ⟨16, true, 4, 0, 0, 0, false, 0, 0⟩ ⊢ Q ⟨⟩) :
    St m K c ⟨16, true, 0, 0, 0, 0, false, 0, 0⟩ ⊢ WP c (onArgs (k0_part3 (F := F)) c v2) Q := by
  unfold onArgs
  rw [k0_part3_eq_skeleton]; unfold k0_part3_skel
  simp only [Prog.lift, Prog.bind_op, Prog.bind_ret, Prog.pure_eq_ret]
  refine step_load m K c 0 (colsA_of (k0_off1_eq c 0) _) rfl rfl (by decide) ?_
  refine step_load m K c 1 (colsA_of (k0_off1_eq c 1) _) rfl rfl (by decide) ?_
  refine step_load m K c 2 (colsA_of (k0_off1_eq c 2) _) rfl rfl (by decide) ?_
  refine step_load m K c 3 (colsA_of (k0_off1_eq c 3) _) rfl rfl (by decide) ?_
  exact step_ret c h

theorem part4 {Q : PUnit → sProp 𝕄} (v2 : BitVec 32)
    (h : St m K c ⟨16, true, 7, 0, 0, 0, false, 0, 0⟩ ⊢ Q ⟨⟩) :
    St m K c ⟨16, true, 4, 0, 0, 0, false, 0, 0⟩ ⊢ WP c (onArgs (k0_part4 (F := F)) c v2) Q := by
  unfold onArgs
  rw [k0_part4_eq_skeleton]; unfold k0_part4_skel
  simp only [Prog.lift, Prog.bind_op, Prog.bind_ret, Prog.pure_eq_ret]
  refine step_load m K c 4 (colsA_of (k0_off1_eq c 4) _) rfl rfl (by decide) ?_
  refine step_load m K c 5 (colsA_of (k0_off1_eq c 5) _) rfl rfl (by decide) ?_
  refine step_load m K c 6 (colsA_of (k0_off1_eq c 6) _) rfl rfl (by decide) ?_
  exact step_ret c h

theorem part5 {Q : PUnit → sProp 𝕄} (v2 : BitVec 32)
    (h : St m K c ⟨16, true, 11, 0, 0, 0, false, 0, 0⟩ ⊢ Q ⟨⟩) :
    St m K c ⟨16, true, 7, 0, 0, 0, false, 0, 0⟩ ⊢ WP c (onArgs (k0_part5 (F := F)) c v2) Q := by
  unfold onArgs
  rw [k0_part5_eq_skeleton]; unfold k0_part5_skel
  simp only [Prog.lift, Prog.bind_op, Prog.bind_ret, Prog.pure_eq_ret]
  refine step_load m K c 7 (colsA_of (k0_off1_eq c 7) _) rfl rfl (by decide) ?_
  refine step_load m K c 8 (colsA_of (k0_off1_eq c 8) _) rfl rfl (by decide) ?_
  refine step_load m K c 9 (colsA_of (k0_off1_eq c 9) _) rfl rfl (by decide) ?_
  refine step_load m K c 10 (colsA_of (k0_off1_eq c 10) _) rfl rfl (by decide) ?_
  exact step_ret c h

theorem part6 {Q : PUnit → sProp 𝕄} (v2 : BitVec 32)
    (h : St m K c ⟨16, true, 14, 0, 0, 0, false, 0, 0⟩ ⊢ Q ⟨⟩) :
    St m K c ⟨16, true, 11, 0, 0, 0, false, 0, 0⟩ ⊢ WP c (onArgs (k0_part6 (F := F)) c v2) Q := by
  unfold onArgs
  rw [k0_part6_eq_skeleton]; unfold k0_part6_skel
  simp only [Prog.lift, Prog.bind_op, Prog.bind_ret, Prog.pure_eq_ret]
  refine step_load m K c 11 (colsA_of (k0_off1_eq c 11) _) rfl rfl (by decide) ?_
  refine step_load m K c 12 (colsA_of (k0_off1_eq c 12) _) rfl rfl (by decide) ?_
  refine step_load m K c 13 (colsA_of (k0_off1_eq c 13) _) rfl rfl (by decide) ?_
  exact step_ret c h

/-! ## The groups are computed and sent -/

theorem part7 {Q : (FVec F S128x2048 .f32) → sProp 𝕄} (v2 : BitVec 32)
    (h : St m K c ⟨16, true, 16, 3, 0, 0, false, 0, 0⟩ ⊢ Q (k0_pay1 (xOf m c))) :
    St m K c ⟨16, true, 14, 0, 0, 0, false, 0, 0⟩ ⊢ WP c (onArgs (k0_part7 (F := F)) c v2) Q := by
  unfold onArgs
  rw [k0_part7_eq_skeleton]; unfold k0_part7_skel
  simp only [Prog.lift, Prog.bind_op, Prog.bind_ret, Prog.pure_eq_ret]
  refine step_load m K c 14 (colsA_of (k0_off1_eq c 14) _) rfl rfl (by decide) ?_
  refine step_load m K c 15 (colsA_of (k0_off1_eq c 15) _) rfl rfl (by decide) ?_
  refine step_x m K c ?_
  refine step_load_wait m K c 0 rfl rfl (by decide) ?_
  refine step_load_wait m K c 1 rfl rfl (by decide) ?_
  refine step_load_wait m K c 2 rfl rfl (by decide) ?_
  exact step_ret c h

theorem part8 {Q : PUnit → sProp 𝕄} (v2 : BitVec 32)
    (h : St m K c ⟨16, true, 16, 4, 1, 1, false, 0, 0⟩ ⊢ Q ⟨⟩) :
    St m K c ⟨16, true, 16, 3, 0, 0, false, 0, 0⟩ ⊢ WP c (onArgs (k0_part8 (F := F)) c v2 (k0_pay1 (xOf m c))) Q := by
  unfold onArgs
  rw [k0_part8_eq_skeleton]; unfold k0_part8_skel
  simp only [Prog.lift, Prog.bind_op, Prog.bind_ret, Prog.pure_eq_ret]
  refine step_load_wait m K c 3 rfl rfl (by decide) ?_
  refine step_load_group m K c 0 (by decide) ?_
  refine step_peek_group m K c 0 rfl fun _ => ?_
  refine step_store_group m K c 0 rfl (by decide) (by decide) ?_
  refine step_send m K c 0 (by decide) (tg_of c 0 (k0_dev17_eq c) rfl _) rfl (rowsO_of (k0_off2_eq c) _) rfl rfl (by decide) (by decide) ?_
  exact step_ret c h

theorem part9 {Q : PUnit → sProp 𝕄} (v2 : BitVec 32)
    (h : St m K c ⟨16, true, 16, 4, 1, 4, false, 0, 0⟩ ⊢ Q ⟨⟩) :
    St m K c ⟨16, true, 16, 4, 1, 1, false, 0, 0⟩ ⊢ WP c (onArgs (k0_part9 (F := F)) c v2) Q := by
  unfold onArgs
  rw [k0_part9_eq_skeleton]; unfold k0_part9_skel
  simp only [Prog.lift, Prog.bind_op, Prog.bind_ret, Prog.pure_eq_ret]
  refine step_send m K c 1 (by decide) (tg_of c 1 (k0_dev18_eq c) rfl _) rfl (rowsO_of (k0_off2_eq c) _) rfl rfl (by decide) (by decide) ?_
  refine step_send m K c 2 (by decide) (tg_of c 2 (k0_dev19_eq c) rfl _) rfl (rowsO_of (k0_off2_eq c) _) rfl rfl (by decide) (by decide) ?_
  refine step_send m K c 3 (by decide) (tg_of c 3 (k0_dev20_eq c) rfl _) rfl (rowsO_of (k0_off2_eq c) _) rfl rfl (by decide) (by decide) ?_
  exact step_ret c h

end Parts

end Cert.Scatter

end
-- ==== Proof.PartsB.lean ====
/-
# The printed parts of the body, the other sixteen

The body is printed in twenty-five parts. For each of them: from the state it finds, with whatever follows it correct
from the state it leaves, it is correct. This module takes the parts from the second group on.
-/
module

public import proofs.«01_k».proof.Proof.Parts

@[expose] public section

set_option maxRecDepth 100000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts

variable (K : Dev nD × CI → ℕ) (c : Dev nD)

theorem part10 {Q : PUnit → sProp 𝕄}
    (h : St m K c ⟨16, true, 16, 8, 2, 4, false, 0, 0⟩ ⊢ Q ⟨⟩) :
    St m K c ⟨16, true, 16, 4, 1, 4, false, 0, 0⟩ ⊢ WP c (onArgs (k0_part10 (F := F)) c (k0_pay1 (xOf m c))) Q := by
  unfold onArgs
  rw [k0_part10_eq_skeleton]; unfold k0_part10_skel
  simp only [Prog.lift, Prog.bind_op, Prog.bind_ret, Prog.pure_eq_ret]
  refine step_load_wait m K c 4 rfl rfl (by decide) ?_
  refine step_load_wait m K c 5 rfl rfl (by decide) ?_
  refine step_load_wait m K c 6 rfl rfl (by decide) ?_
  refine step_load_wait m K c 7 rfl rfl (by decide) ?_
  refine step_load_group m K c 1 (by decide) ?_
  refine step_peek_group m K c 1 rfl fun _ => ?_
  refine step_store_group m K c 1 rfl (by decide) (by decide) ?_
  exact step_ret c h

theorem part11 {Q : (Σ' (_ : BitVec 32), BitVec 32) → sProp 𝕄} (v2 : BitVec 32)
    (h : ∀ v, St m K c ⟨16, true, 16, 8, 2, 6, false, 0, 0⟩ ⊢ Q v) :
    St m K c ⟨16, true, 16, 8, 2, 4, false, 0, 0⟩ ⊢ WP c (onArgs (k0_part11 (F := F)) c v2) Q := by
  unfold onArgs
  rw [k0_part11_eq_skeleton]; unfold k0_part11_skel
  simp only [Prog.lift, Prog.bind_op, Prog.bind_ret, Prog.pure_eq_ret]
  refine step_send m K c 4 (by decide) (tg_of c 4 (k0_dev21_eq c) rfl _) rfl (rowsO_of (k0_off2_eq c) _) rfl rfl (by decide) (by decide) ?_
  refine step_send m K c 5 (by decide) (tg_of c 5 (k0_dev22_eq c) rfl _) rfl (rowsO_of (k0_off2_eq c) _) rfl rfl (by decide) (by decide) ?_
  exact step_ret c (h _)

theorem part12 {Q : PUnit → sProp 𝕄} (v2 v315 c0 : BitVec 32)
    (h : St m K c ⟨16, true, 16, 10, 2, 8, false, 0, 0⟩ ⊢ Q ⟨⟩) :
    St m K c ⟨16, true, 16, 8, 2, 6, false, 0, 0⟩ ⊢ WP c (onArgs (k0_part12 (F := F)) c v2 v315 c0) Q := by
  unfold onArgs
  rw [k0_part12_eq_skeleton]; unfold k0_part12_skel
  simp only [Prog.lift, Prog.bind_op, Prog.bind_ret, Prog.pure_eq_ret]
  refine step_send m K c 6 (by decide) (tg_of c 6 (k0_dev23_eq c) rfl _) rfl (rowsO_of (k0_off2_eq c) _) rfl rfl (by decide) (by decide) ?_
  refine step_send m K c 7 (by decide) (tg_of c 7 (k0_dev24_eq c) rfl _) rfl (rowsO_of (k0_off2_eq c) _) rfl rfl (by decide) (by decide) ?_
  refine step_load_wait m K c 8 rfl rfl (by decide) ?_
  refine step_load_wait m K c 9 rfl rfl (by decide) ?_
  exact step_ret c h

theorem part13 {Q : PUnit → sProp 𝕄} (v2 : BitVec 32)
    (h : St m K c ⟨16, true, 16, 12, 3, 8, false, 0, 0⟩ ⊢ Q ⟨⟩) :
    St m K c ⟨16, true, 16, 10, 2, 8, false, 0, 0⟩ ⊢ WP c (onArgs (k0_part13 (F := F)) c v2 (k0_pay1 (xOf m c))) Q := by
  unfold onArgs
  rw [k0_part13_eq_skeleton]; unfold k0_part13_skel
  simp only [Prog.lift, Prog.bind_op, Prog.bind_ret, Prog.pure_eq_ret]
  refine step_load_wait m K c 10 rfl rfl (by decide) ?_
  refine step_load_wait m K c 11 rfl rfl (by decide) ?_
  refine step_load_group m K c 2 (by decide) ?_
  refine step_peek_group m K c 2 rfl fun _ => ?_
  refine step_store_group m K c 2 rfl (by decide) (by decide) ?_
  exact step_ret c h

theorem part14 {Q : (BitVec 32) → sProp 𝕄} (v2 : BitVec 32)
    (h : ∀ v, St m K c ⟨16, true, 16, 12, 3, 11, false, 0, 0⟩ ⊢ Q v) :
    St m K c ⟨16, true, 16, 12, 3, 8, false, 0, 0⟩ ⊢ WP c (onArgs (k0_part14 (F := F)) c v2) Q := by
  unfold onArgs
  rw [k0_part14_eq_skeleton]; unfold k0_part14_skel
  simp only [Prog.lift, Prog.bind_op, Prog.bind_ret, Prog.pure_eq_ret]
  refine step_send m K c 8 (by decide) (tg_of c 8 (k0_dev25_eq c) rfl _) rfl (rowsO_of (k0_off2_eq c) _) rfl rfl (by decide) (by decide) ?_
  refine step_send m K c 9 (by decide) (tg_of c 9 (k0_dev26_eq c) rfl _) rfl (rowsO_of (k0_off2_eq c) _) rfl rfl (by decide) (by decide) ?_
  refine step_send m K c 10 (by decide) (tg_of c 10 (k0_dev27_eq c) rfl _) rfl (rowsO_of (k0_off2_eq c) _) rfl rfl (by decide) (by decide) ?_
  exact step_ret c (h _)

theorem part15 {Q : PUnit → sProp 𝕄} (v404 : BitVec 32)
    (h : St m K c ⟨16, true, 16, 16, 3, 12, false, 0, 0⟩ ⊢ Q ⟨⟩) :
    St m K c ⟨16, true, 16, 12, 3, 11, false, 0, 0⟩ ⊢ WP c (onArgs (k0_part15 (F := F)) c v404) Q := by
  unfold onArgs
  rw [k0_part15_eq_skeleton]; unfold k0_part15_skel
  simp only [Prog.lift, Prog.bind_op, Prog.bind_ret, Prog.pure_eq_ret]
  refine step_send m K c 11 (by decide) (tg_of c 11 (k0_dev28_eq c) rfl _) rfl (rowsO_of (k0_off2_eq c) _) rfl rfl (by decide) (by decide) ?_
  refine step_load_wait m K c 12 rfl rfl (by decide) ?_
  refine step_load_wait m K c 13 rfl rfl (by decide) ?_
  refine step_load_wait m K c 14 rfl rfl (by decide) ?_
  refine step_load_wait m K c 15 rfl rfl (by decide) ?_
  exact step_ret c h

theorem part16 {Q : PUnit → sProp 𝕄} (v2 : BitVec 32)
    (h : St m K c ⟨16, true, 16, 16, 4, 13, false, 0, 0⟩ ⊢ Q ⟨⟩) :
    St m K c ⟨16, true, 16, 16, 3, 12, false, 0, 0⟩ ⊢ WP c (onArgs (k0_part16 (F := F)) c v2 (k0_pay1 (xOf m c))) Q := by
  unfold onArgs
  rw [k0_part16_eq_skeleton]; unfold k0_part16_skel
  simp only [Prog.lift, Prog.bind_op, Prog.bind_ret, Prog.pure_eq_ret]
  refine step_load_group m K c 3 (by decide) ?_
  refine step_peek_group m K c 3 rfl fun _ => ?_
  refine step_store_group m K c 3 rfl (by decide) (by decide) ?_
  refine step_send m K c 12 (by decide) (tg_of c 12 (k0_dev29_eq c) rfl _) rfl (rowsO_of (k0_off2_eq c) _) rfl rfl (by decide) (by decide) ?_
  exact step_ret c h

/-! ## The own block, and the waits for what is received -/

theorem part17 {Q : (BitVec 32) → sProp 𝕄} (v2 : BitVec 32)
    (h : ∀ v, St m K c ⟨16, true, 16, 16, 4, 15, true, 1, 0⟩ ⊢ Q v) :
    St m K c ⟨16, true, 16, 16, 4, 13, false, 0, 0⟩ ⊢ WP c (onArgs (k0_part17 (F := F)) c v2) Q := by
  unfold onArgs
  rw [k0_part17_eq_skeleton]; unfold k0_part17_skel
  simp only [Prog.lift, Prog.bind_op, Prog.bind_ret, Prog.pure_eq_ret]
  refine step_send m K c 13 (by decide) (tg_of c 13 (k0_dev30_eq c) rfl _) rfl (rowsO_of (k0_off2_eq c) _) rfl rfl (by decide) (by decide) ?_
  refine step_send m K c 14 (by decide) (tg_of c 14 (k0_dev31_eq c) rfl _) rfl (rowsO_of (k0_off2_eq c) _) rfl rfl (by decide) (by decide) ?_
  refine step_load_own m K c (by decide) ?_
  refine step_peek_own m K c (k0_off3_eq c) fun _ => ?_
  refine step_store_own m K c (k0_off3_eq c) rfl ?_
  refine step_recv_wait m K c 0 (by decide) rfl rfl ?_
  exact step_ret c (h _)

theorem part18 {Q : PUnit → sProp 𝕄} (v2 c14 : BitVec 32)
    (h : St m K c ⟨16, true, 16, 16, 4, 15, true, 3, 0⟩ ⊢ Q ⟨⟩) :
    St m K c ⟨16, true, 16, 16, 4, 15, true, 1, 0⟩ ⊢ WP c (onArgs (k0_part18 (F := F)) c v2 c14) Q := by
  unfold onArgs
  rw [k0_part18_eq_skeleton]; unfold k0_part18_skel
  simp only [Prog.lift, Prog.bind_op, Prog.bind_ret, Prog.pure_eq_ret]
  refine step_recv_wait m K c 1 (by decide) rfl rfl ?_
  refine step_recv_wait m K c 2 (by decide) rfl rfl ?_
  exact step_ret c h

theorem part19 {Q : (BitVec 32) → sProp 𝕄} (v2 : BitVec 32)
    (h : ∀ v, St m K c ⟨16, true, 16, 16, 4, 15, true, 6, 0⟩ ⊢ Q v) :
    St m K c ⟨16, true, 16, 16, 4, 15, true, 3, 0⟩ ⊢ WP c (onArgs (k0_part19 (F := F)) c v2) Q := by
  unfold onArgs
  rw [k0_part19_eq_skeleton]; unfold k0_part19_skel
  simp only [Prog.lift, Prog.bind_op, Prog.bind_ret, Prog.pure_eq_ret]
  refine step_recv_wait m K c 3 (by decide) rfl rfl ?_
  refine step_recv_wait m K c 4 (by decide) rfl rfl ?_
  refine step_recv_wait m K c 5 (by decide) rfl rfl ?_
  exact step_ret c (h _)

theorem part20 {Q : (Σ' (_ : BitVec 32), BitVec 32) → sProp 𝕄} (v2 v546 : BitVec 32)
    (h : ∀ v, St m K c ⟨16, true, 16, 16, 4, 15, true, 9, 0⟩ ⊢ Q v) :
    St m K c ⟨16, true, 16, 16, 4, 15, true, 6, 0⟩ ⊢ WP c (onArgs (k0_part20 (F := F)) c v2 v546) Q := by
  unfold onArgs
  rw [k0_part20_eq_skeleton]; unfold k0_part20_skel
  simp only [Prog.lift, Prog.bind_op, Prog.bind_ret, Prog.pure_eq_ret]
  refine step_recv_wait m K c 6 (by decide) rfl rfl ?_
  refine step_recv_wait m K c 7 (by decide) rfl rfl ?_
  refine step_recv_wait m K c 8 (by decide) rfl rfl ?_
  exact step_ret c (h _)

theorem part21 {Q : PUnit → sProp 𝕄} (v2 v574 c128 : BitVec 32)
    (h : St m K c ⟨16, true, 16, 16, 4, 15, true, 11, 0⟩ ⊢ Q ⟨⟩) :
    St m K c ⟨16, true, 16, 16, 4, 15, true, 9, 0⟩ ⊢ WP c (onArgs (k0_part21 (F := F)) c v2 v574 c128) Q := by
  unfold onArgs
  rw [k0_part21_eq_skeleton]; unfold k0_part21_skel
  simp only [Prog.lift, Prog.bind_op, Prog.bind_ret, Prog.pure_eq_ret]
  refine step_recv_wait m K c 9 (by decide) rfl rfl ?_
  refine step_recv_wait m K c 10 (by decide) rfl rfl ?_
  exact step_ret c h

theorem part22 {Q : PUnit → sProp 𝕄} (v2 : BitVec 32)
    (h : St m K c ⟨16, true, 16, 16, 4, 15, true, 14, 0⟩ ⊢ Q ⟨⟩) :
    St m K c ⟨16, true, 16, 16, 4, 15, true, 11, 0⟩ ⊢ WP c (onArgs (k0_part22 (F := F)) c v2) Q := by
  unfold onArgs
  rw [k0_part22_eq_skeleton]; unfold k0_part22_skel
  simp only [Prog.lift, Prog.bind_op, Prog.bind_ret, Prog.pure_eq_ret]
  refine step_recv_wait m K c 11 (by decide) rfl rfl ?_
  refine step_recv_wait m K c 12 (by decide) rfl rfl ?_
  refine step_recv_wait m K c 13 (by decide) rfl rfl ?_
  exact step_ret c h

/-! ## The waits for what was sent -/

theorem part23 {Q : PUnit → sProp 𝕄}
    (h : St m K c ⟨16, true, 16, 16, 4, 15, true, 15, 4⟩ ⊢ Q ⟨⟩) :
    St m K c ⟨16, true, 16, 16, 4, 15, true, 14, 0⟩ ⊢ WP c (onArgs (k0_part23 (F := F)) c) Q := by
  unfold onArgs
  rw [k0_part23_eq_skeleton]; unfold k0_part23_skel
  simp only [Prog.lift, Prog.bind_op, Prog.bind_ret, Prog.pure_eq_ret]
  refine step_recv_wait m K c 14 (by decide) rfl rfl ?_
  refine step_send_wait m K c 0 (by decide) rfl rfl (by decide) ?_
  refine step_send_wait m K c 1 (by decide) rfl rfl (by decide) ?_
  refine step_send_wait m K c 2 (by decide) rfl rfl (by decide) ?_
  refine step_send_wait m K c 3 (by decide) rfl rfl (by decide) ?_
  exact step_ret c h

theorem part24 {Q : PUnit → sProp 𝕄}
    (h : St m K c ⟨16, true, 16, 16, 4, 15, true, 15, 8⟩ ⊢ Q ⟨⟩) :
    St m K c ⟨16, true, 16, 16, 4, 15, true, 15, 4⟩ ⊢ WP c (onArgs (k0_part24 (F := F)) c) Q := by
  unfold onArgs
  rw [k0_part24_eq_skeleton]; unfold k0_part24_skel
  simp only [Prog.lift, Prog.bind_op, Prog.bind_ret, Prog.pure_eq_ret]
  refine step_send_wait m K c 4 (by decide) rfl rfl (by decide) ?_
  refine step_send_wait m K c 5 (by decide) rfl rfl (by decide) ?_
  refine step_send_wait m K c 6 (by decide) rfl rfl (by decide) ?_
  refine step_send_wait m K c 7 (by decide) rfl rfl (by decide) ?_
  exact step_ret c h

theorem part25 {Q : PUnit → sProp 𝕄}
    (h : St m K c ⟨16, true, 16, 16, 4, 15, true, 15, 13⟩ ⊢ Q ⟨⟩) :
    St m K c ⟨16, true, 16, 16, 4, 15, true, 15, 8⟩ ⊢ WP c (onArgs (k0_part25 (F := F)) c) Q := by
  unfold onArgs
  rw [k0_part25_eq_skeleton]; unfold k0_part25_skel
  simp only [Prog.lift, Prog.bind_op, Prog.bind_ret, Prog.pure_eq_ret]
  refine step_send_wait m K c 8 (by decide) rfl rfl (by decide) ?_
  refine step_send_wait m K c 9 (by decide) rfl rfl (by decide) ?_
  refine step_send_wait m K c 10 (by decide) rfl rfl (by decide) ?_
  refine step_send_wait m K c 11 (by decide) rfl rfl (by decide) ?_
  refine step_send_wait m K c 12 (by decide) rfl rfl (by decide) ?_
  exact step_ret c h

end Parts

end Cert.Scatter

end
-- ==== Proof.Body.lean ====
/-
# The body as a whole

The parts in their order take the body from nothing done to everything done. Before them the buffers are cut into the
pieces of the state; after them the pieces are whole buffers again, and every cell is closed.
-/
module

public import proofs.«01_k».proof.Proof.PartsB

@[expose] public section

set_option maxRecDepth 100000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The run -/

section Run

variable (K : Dev nD × CI → ℕ) (c : Dev nD)

def ctr0 : Ctr := ⟨0, false, 0, 0, 0, 0, false, 0, 0⟩
def ctr1 : Ctr := ⟨16, true, 16, 16, 4, 15, true, 15, 15⟩

theorem body_run {Q : PUnit → sProp 𝕄} (h : St m K c ctr1 ⊢ |={Set.univ}=> Q ⟨⟩) :
    St m K c ctr0 ⊢ WP c (onArgs (cc0_body (F := F))) Q := by
  unfold onArgs
  rw [cc0_body_eq_skeleton]; unfold cc0_body_skel
  simp only [wp_bind, Prog.lift, Prog.pure_eq_ret]
  refine part1 m K c fun v2 => ?_
  refine part2 m K c v2 ?_
  refine part3 m K c v2 ?_
  refine part4 m K c v2 ?_
  refine part5 m K c v2 ?_
  refine part6 m K c v2 ?_
  refine part7 m K c v2 ?_
  refine part8 m K c v2 ?_
  refine part9 m K c v2 ?_
  refine part10 m K c ?_
  refine part11 m K c v2 fun v => ?_
  refine part12 m K c v2 _ _ ?_
  refine part13 m K c v2 ?_
  refine part14 m K c v2 fun v404 => ?_
  refine part15 m K c v404 ?_
  refine part16 m K c v2 ?_
  refine part17 m K c v2 fun c14 => ?_
  refine part18 m K c v2 c14 ?_
  refine part19 m K c v2 fun v546 => ?_
  refine part20 m K c v2 v546 fun v => ?_
  refine part21 m K c v2 _ _ ?_
  refine part22 m K c v2 ?_
  refine part23 m K c ?_
  refine part24 m K c ?_
  refine part25 m K c ?_
  simp only [← wp_bind, Prog.bind_op, Prog.bind_ret]
  refine step_send_wait m K c 13 (by decide) rfl rfl (by decide) ?_
  refine step_send_wait m K c 14 (by decide) rfl rfl (by decide) ?_
  unfold WP; rw [wp_ret]
  exact h

end Run

/-! ## Buffers and their pieces -/

/-- A whole buffer is its pieces. -/
theorem whole_pieces {T : Type} [Fintype T] (ℓ : Loc nD τ sig) (S : T → Finset (Idx ℓ)) (k : Idx ℓ → T)
    (hS : ∀ i t, i ∈ S t ↔ k i = t) (f : Buf (Elt F) ℓ) :
    (ℓ ↦{fullShare} f : sProp 𝕄) = bigSep Finset.univ fun t => ℓ ↦[S t]{fullShare} f := by
  classical
  have e : (Finset.univ : Finset (Idx ℓ)) = Finset.univ.biUnion S := by
    ext i
    exact ⟨fun _ => Finset.mem_biUnion.mpr ⟨k i, Finset.mem_univ _, (hS i _).mpr rfl⟩, fun _ => Finset.mem_univ _⟩
  refine Eq.trans (congrArg (fun S => (ℓ ↦[S]{fullShare} f : sProp 𝕄)) e) ?_
  exact pointsTo_biUnion _ _ fun t _ t' _ h =>
    Finset.disjoint_left.mpr fun i h1 h2 => h (((hS i t).mp h1).symm.trans ((hS i t').mp h2))

theorem mem_fibre {I T : Type} [Fintype I] [DecidableEq T] (k : I → T) (i : I) (t : T) : i ∈ Finset.univ.filter (fun i => k i = t) ↔ k i = t :=
  ⟨fun h => (Finset.mem_filter.mp h).2, fun h => Finset.mem_filter.mpr ⟨Finset.mem_univ _, h⟩⟩

section Pieces

variable (c : Dev nD)

theorem pW_whole (f : Buf (Elt F) ((c : Thread nD τ).loc cc0_scratch0)) :
    (((c : Thread nD τ).loc cc0_scratch0) ↦{fullShare} f : sProp 𝕄) = bigSep Finset.univ fun l => pW c l f :=
  whole_pieces ((c : Thread nD τ).loc cc0_scratch0) setW kW (fun i t => mem_fibre kW i t) f
theorem pC_whole (f : Buf (Elt F) ((c : Thread nD τ).loc cc0_scratch1)) :
    (((c : Thread nD τ).loc cc0_scratch1) ↦{fullShare} f : sProp 𝕄) = bigSep Finset.univ fun l => pC c l f :=
  whole_pieces ((c : Thread nD τ).loc cc0_scratch1) setC kC (fun i t => mem_fibre kC i t) f
theorem pO_whole (f : Buf (Elt F) ((c : Thread nD τ).loc cc0_stg1_0)) :
    (((c : Thread nD τ).loc cc0_stg1_0) ↦{fullShare} f : sProp 𝕄) = bigSep Finset.univ fun s => pO c s f :=
  whole_pieces ((c : Thread nD τ).loc cc0_stg1_0) setO kO (fun i t => mem_fibre kO i t) f
theorem pA_whole (f : Buf (Elt F) ((c : Thread nD τ).loc main_arg1)) :
    (((c : Thread nD τ).loc main_arg1) ↦{fullShare} f : sProp 𝕄) = bigSep Finset.univ fun l => pA c l f :=
  whole_pieces ((c : Thread nD τ).loc main_arg1) (setA c) (kA c) (fun i t => mem_fibre (kA c) i t) f
theorem pG_whole (f : Buf (Elt F) ((c : Thread nD τ).loc cc0_scratch1)) :
    (((c : Thread nD τ).loc cc0_scratch1) ↦{fullShare} f : sProp 𝕄)
      = bigSep Finset.univ fun j : Fin 4 => ((c : Thread nD τ).loc cc0_scratch1) ↦[setCG j]{fullShare} f := by
  refine whole_pieces ((c : Thread nD τ).loc cc0_scratch1) setCG (fun i : S4x128x512.Idx => (i 0 : Fin 4)) (fun i j => ?_) f
  refine ⟨fun h => Fin.ext (Finset.mem_filter.mp h).2, fun h => Finset.mem_filter.mpr ⟨Finset.mem_univ _, congrArg Fin.val h⟩⟩

/-! ## What a device begins and ends with -/

/-- The cells of a device: its barrier's and the others; -/
theorem ci_all (Φ : CI → sProp 𝕄) : bigSep Finset.univ Φ = iprop(Φ none ∗ bigSep Finset.univ fun x => Φ (some x)) := by
  rw [bigSep_univ_equiv (Equiv.optionEquivSumPUnit.{0} (Fin 3 × Fin 16)).symm, bigSep_univ_sum, bigSep_univ_of_subsingleton PUnit.unit.{1}]
  exact BI.equiv_iff.mp ⟨(sep_comm (PROP := sProp 𝕄)).mp, (sep_comm (PROP := sProp 𝕄)).mp⟩

/-- these one kind after the other. -/
theorem ci_eq (Φ : CI → sProp 𝕄) :
    bigSep Finset.univ Φ = iprop(Φ none ∗ bigSep Finset.univ (fun l => Φ (some (0, l))) ∗ bigSep Finset.univ (fun l => Φ (some (1, l)))
      ∗ bigSep Finset.univ (fun l => Φ (some (2, l)))) := by
  rw [ci_all, bigSep_univ_prod, bigSep_univ_eq_bigSepL [(0 : Fin 3), 1, 2] (by decide) (by decide)]; rfl

/-- Its positions at its cells, and the tokens of the duties it pays. -/
def posn : sProp 𝕄 := bigSep Finset.univ fun x : CI => atPos ER (kcell (c, x)) 0 ∅ 0
def toks : sProp 𝕄 :=
  iprop((bigSep Finset.univ fun p => dutyTok ER (barCell p) 0 c) ∗ (bigSep Finset.univ fun l => dutyTok ER (loadCell c l) 0 0)
    ∗ (bigSep Finset.univ fun l => dutyTok ER (sendCell c l) 0 0) ∗ (bigSep Finset.univ fun l => dutyTok ER (recvCell (tg c l) l) 0 0))
/-- Its credits. -/
def crd : sProp 𝕄 :=
  iprop(cred (tallyAt (barCell c) () 15) ∗ bigSep Finset.univ fun l => if l = 15 then iprop(emp) else cred (tallyAt (recvCell c l) () NS))
/-- Its weights. -/
def argW : sProp 𝕄 := ((c : Thread nD τ).loc main_arg1) ↦{fullShare} aOf m c
/-- Its scratch buffers. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def start : sProp 𝕄 := iprop((∃ K, Rec m K ∗ posn (F := F) c ∗ toks (F := F) c) ∗ crd (F := F) c ∗ argW m c)
/-- Its counters at zero. -/
def zeros : sProp 𝕄 := bigSep Finset.univ fun x : CI => semVal (kcell (c, x)) 0
def finish : sProp 𝕄 := iprop(argW m c ∗ zeros (F := F) c)

theorem Sig_intro (f : Buf (Elt F) ((c : Thread nD τ).loc cc0_stg1_0)) :
    iprop((((c : Thread nD τ).loc cc0_stg1_0) ↦{fullShare} f) ∗ bigSep Finset.univ fun p => dutyTok ER (barCell p) 0 c)
      ⊢ iprop(Sig (F := F) c 0 ∗ Own m c false) := by
  have e : (((c : Thread nD τ).loc cc0_stg1_0) ↦{fullShare} f : sProp 𝕄)
      = iprop(pO c c f ∗ bigSep Finset.univ fun p => if p ≠ c then pO c p f else iprop(emp)) := by
    have hf := bigSep_filter Finset.univ (fun p => p ≠ c) fun p => pO (F := F) c p f
    rw [show Finset.univ.filter (fun p => p ≠ c) = Finset.univ.erase c from by ext p; simp] at hf
    rw [pO_whole, bigSep_univ_at _ c, hf]; rfl
  rw [e]
  have h : iprop((bigSep Finset.univ fun p => if p ≠ c then pO c p f else iprop(emp)) ∗ bigSep Finset.univ fun p => dutyTok ER (barCell p) 0 c)
      ⊢ Sig (F := F) c 0 := by
    unfold Sig; rw [← bigSep_sep']
    refine bigSep_mono fun p _ => ?_
    show (_ : sProp 𝕄) ⊢ _
    unfold sgP
    by_cases hp : p ≠ c
    · rw [if_pos hp, if_pos ⟨Nat.zero_le _, hp⟩]
      iintro ⟨H, Ht⟩
      isplitl [Ht]; · iexact Ht
      iexists f; iexact H
    · rw [if_neg hp, if_neg fun h => hp h.2]
      iintro -; iempintro
  iintro ⟨⟨Ho, Hr⟩, Ht⟩
  isplitl [Hr Ht]
  · iapply h
    isplitl [Hr]; · iexact Hr
    iexact Ht
  · unfold Own
    rw [if_neg Bool.false_ne_true]
    iexists f; iexact Ho

theorem Ld_intro (f : Buf (Elt F) ((c : Thread nD τ).loc cc0_scratch0)) :
    iprop((((c : Thread nD τ).loc cc0_scratch0) ↦{fullShare} f) ∗ argW m c ∗ (bigSep Finset.univ fun l => dutyTok ER (loadCell c l) 0 0)
      ∗ (bigSep Finset.univ fun l => atPos ER (loadCell c l) 0 ∅ 0)) ⊢ Ld m c 0 0 := by
  unfold Ld argW; rw [pW_whole, pA_whole, ← bigSep_sep', ← bigSep_sep', ← bigSep_sep']
  refine bigSep_mono fun l _ => ?_
  show (_ : sProp 𝕄) ⊢ _
  unfold ldP; rw [if_neg (Nat.not_lt_zero _), if_neg (Nat.not_lt_zero _)]
  iintro ⟨H1, H2, H3, H4⟩
  isplitl [H3]; · iexact H3
  isplitl [H4]; · iexact H4
  isplitl [H1]; · iexists f; iexact H1
  iexact H2

theorem Cg_intro (f : Buf (Elt F) ((c : Thread nD τ).loc cc0_scratch1)) :
    (((c : Thread nD τ).loc cc0_scratch1) ↦{fullShare} f) ⊢ Cg (F := F) c 0 := by
  unfold Cg; rw [pG_whole]
  refine bigSep_mono fun j _ => ?_
  show (_ : sProp 𝕄) ⊢ _
  unfold cgP; rw [if_neg (Nat.not_lt_zero _)]
  iintro H; iexists f; iexact H

theorem Tx_intro :
    iprop((bigSep Finset.univ fun l => dutyTok ER (sendCell c l) 0 0) ∗ (bigSep Finset.univ fun l => dutyTok ER (recvCell (tg c l) l) 0 0)
      ∗ (bigSep Finset.univ fun l => atPos ER (sendCell c l) 0 ∅ 0)) ⊢ Tx m c false 0 0 0 := by
  unfold Tx; rw [← bigSep_sep', ← bigSep_sep']
  refine bigSep_mono fun l _ => ?_
  show (_ : sProp 𝕄) ⊢ _
  unfold txP
  by_cases h : l = 15
  · rw [if_pos h, if_neg (Nat.not_lt_zero _)]
    iintro ⟨-, -, H⟩
    isplitl [H]; · iexact H
    iempintro
  · have h0 : ¬ l.val < 0 := Nat.not_lt_zero _
    have h1 : ¬ l.val < 4 * 0 := Nat.not_lt_zero _
    simp only [if_neg h, if_neg h0, if_neg h1, if_neg Bool.false_ne_true]
    iintro ⟨H1, H2, H3⟩
    isplitl [H1 H2 H3]
    · isplitl [H1]; · iexact H1
      isplitl [H2]; · iexact H2
      iexact H3
    isplitr <;> iempintro

theorem Rx_intro :
    iprop((bigSep Finset.univ fun l => if l = 15 then iprop(emp) else cred (tallyAt (recvCell c l) () NS))
      ∗ (bigSep Finset.univ fun l => atPos ER (recvCell c l) 0 ∅ 0)) ⊢ Rx m c 0 := by
  unfold Rx; rw [← bigSep_sep']
  refine bigSep_mono fun l _ => ?_
  show (_ : sProp 𝕄) ⊢ _
  unfold rxP
  by_cases h : l = 15
  · rw [if_pos h, if_pos h]; iintro ⟨-, H⟩; iexact H
  · rw [if_neg h, if_neg h, if_neg (Nat.not_lt_zero _)]

/-- The state at the start, from what the device begins with. -/
theorem St_intro (K : Dev nD × CI → ℕ) (W : Waits sig Unit) (f : Buf (Elt F) ((c : Thread nD τ).loc cc0_stg1_0)) :
    iprop((Rec m K ∗ posn (F := F) c ∗ toks (F := F) c) ∗ crd (F := F) c ∗ argW m c ∗ scr (F := F) c
      ∗ owes (c : Thread nD τ) (owed c 0 0) W ∗ Xs m c ∗ (((c : Thread nD τ).loc cc0_stg1_0) ↦{fullShare} f)) ⊢ St m K c ctr0 := by
  unfold St posn toks crd scr
  rw [ci_eq]
  iintro ⟨⟨HR, ⟨HpB, HpL, HpS, HpR⟩, HtB, HtL, HtS, HtR⟩, ⟨HcB, HcR⟩, HA, ⟨⟨%f0, HW⟩, ⟨%f1, HC⟩⟩, HO, HX, Hout⟩
  icases (Sig_intro m c f) $$ [Hout HtB] with ⟨HSig, HOwn⟩
  · isplitl [Hout]; · iexact Hout
    iexact HtB
  isplitl [HR]; · iexact HR
  isplitl [HO]; · unfold Owe; iexists W; iexact HO
  isplitl [HSig]; · iexact HSig
  isplitl [HcB HpB]
  · unfold Bar
    rw [if_neg (show ¬ (ctr0.bar = true) from Bool.false_ne_true)]
    isplitl [HcB]; · iexact HcB
    iexact HpB
  isplitl [HW HA HtL HpL]
  · iapply (Ld_intro m c f0)
    isplitl [HW]; · iexact HW
    isplitl [HA]; · iexact HA
    isplitl [HtL]; · iexact HtL
    iexact HpL
  isplitl [HC]; · iapply (Cg_intro c f1); iexact HC
  isplitl [HtS HtR HpS]
  · iapply (Tx_intro m c)
    isplitl [HtS]; · iexact HtS
    isplitl [HtR]; · iexact HtR
    iexact HpS
  isplitl [HOwn]; · iexact HOwn
  isplitl [HcR HpR]
  · iapply (Rx_intro m c)
    isplitl [HcR]; · iexact HcR
    iexact HpR
  iexact HX

theorem Ld_elim : Ld m c 16 16 ⊢ iprop((bigSep Finset.univ fun l => semVal (loadCell c l) 0)
    ∗ (((c : Thread nD τ).loc cc0_scratch0) ↦{fullShare} wFin m c) ∗ argW m c) := by
  unfold Ld argW; rw [pW_whole, pA_whole, ← bigSep_sep', ← bigSep_sep']
  exact Entails.of_eq (bigSep_congr fun l _ => if_pos l.isLt)

theorem unused_close (K : Dev nD × CI → ℕ) (k : Fin 3) (hk : k ≠ 0) :
    iprop(Rec m K ∗ atPos ER (dCell c k 15) 0 ∅ 0) ⊢ iprop(|={Set.univ}=> semVal (dCell c k 15) 0) := by
  have h := Rounds.cell_close ER (Rd m) (κ := K (c, some (k, 15))) (Set.mem_univ _) (fun h => h) (R := 0) (duties_unused m c k hk)
  exact (sep_mono_left (Rec_inv m K (c, some (k, 15)))).trans h

theorem Tx_elim (K : Dev nD × CI → ℕ) : iprop(Rec m K ∗ Tx m c true 4 15 15)
    ⊢ |={Set.univ}=> iprop((bigSep Finset.univ fun l => semVal (sendCell c l) 0) ∗ (((c : Thread nD τ).loc cc0_scratch1) ↦{fullShare} cFin m c)) := by
  rw [pC_whole, ← bigSep_sep']
  refine (bigSep_with_persistent (Ψ := fun l => iprop(|={Set.univ}=> (semVal (sendCell c l) 0 ∗ pC c l (cFin m c)))) fun l _ => ?_).trans (bigSep_fupd _ _)
  unfold txP
  by_cases h : l = 15
  · subst h
    rw [if_pos rfl, if_pos (by decide)]
    iintro ⟨HR, Hat, HC⟩
    imod (unused_close m c K 1 (by decide)) $$ [HR Hat] with Hv
    · isplitl [HR]; · iexact HR
      iexact Hat
    imodintro
    isplitl [Hv]; · iexact Hv
    iexact HC
  · have : l.val ≠ 15 := fun h' => h (Fin.ext h')
    rw [if_neg h, if_pos (by omega)]
    iintro ⟨-, H⟩
    imodintro; iexact H

theorem Rx_elim (K : Dev nD × CI → ℕ) : iprop(Rec m K ∗ Rx m c 15 ∗ Own m c true)
    ⊢ |={Set.univ}=> iprop((bigSep Finset.univ fun l => semVal (recvCell c l) 0) ∗ (((c : Thread nD τ).loc cc0_stg1_0) ↦{fullShare} outAt m c)) := by
  have hO : Own m c true ⊢ bigSep Finset.univ fun l => if l = 15 then pO c (sr c l) (outAt m c) else iprop(emp) := by
    rw [bigSep_univ_at _ (15 : Fin 16), if_pos rfl, sr_last, bigSep_congr (Ψ := fun _ => iprop(emp)) fun l hl => if_neg (Finset.ne_of_mem_erase hl), show (iprop(emp) : sProp 𝕄) = BI.emp from rfl, bigSep_emp_const]
    unfold Own; rw [if_pos rfl]
    iintro H; isplitl [H]; · iexact H
    iempintro
  rw [pO_whole, bigSep_univ_equiv (srE c) fun s => pO (F := F) c s (outAt m c), ← bigSep_sep']
  refine (sep_mono_right (sep_mono_right hO)).trans ?_
  unfold Rx
  rw [← bigSep_sep']
  refine (bigSep_with_persistent (Ψ := fun l => iprop(|={Set.univ}=> (semVal (recvCell c l) 0 ∗ pO c (sr c l) (outAt m c)))) fun l _ => ?_).trans (bigSep_fupd _ _)
  unfold rxP
  by_cases h : l = 15
  · subst h
    rw [if_pos rfl, if_pos rfl]
    iintro ⟨HR, Hat, HO⟩
    imod (unused_close m c K 2 (by decide)) $$ [HR Hat] with Hv
    · isplitl [HR]; · iexact HR
      iexact Hat
    imodintro
    isplitl [Hv]; · iexact Hv
    iexact HO
  · have : l.val ≠ 15 := fun h' => h (Fin.ext h')
    rw [if_neg h, if_neg h, if_pos (by omega)]
    iintro ⟨-, H, -⟩
    imodintro; iexact H

/-- What the state is at the end. -/
theorem St_elim (K : Dev nD × CI → ℕ) : St m K c ctr1
    ⊢ |={Set.univ}=> iprop(finish m c ∗ scr (F := F) c ∗ (∃ W, owes (c : Thread nD τ) 0 W) ∗ Xs m c
      ∗ (((c : Thread nD τ).loc cc0_stg1_0) ↦{fullShare} outAt m c)) := by
  unfold St finish zeros scr
  rw [ci_eq]
  iintro ⟨#HR, HO, -, HB, HL, -, HT, HOwn, HRx, HX⟩
  icases (show Ld m c ctr1.ld ctr1.lw ⊢ _ from Ld_elim m c) $$ HL with ⟨HvL, HW, HA⟩
  imod (show iprop(Rec m K ∗ Tx m c ctr1.bar ctr1.grp ctr1.tx ctr1.tw) ⊢ _ from Tx_elim m c K) $$ [HT] with ⟨HvS, HC⟩
  · isplitr; · iexact HR
    iexact HT
  imod (show iprop(Rec m K ∗ Rx m c ctr1.rx ∗ Own m c ctr1.own) ⊢ _ from Rx_elim m c K) $$ [HRx HOwn] with ⟨HvR, Hout⟩
  · isplitr; · iexact HR
    isplitl [HRx]; · iexact HRx
    iexact HOwn
  imodintro
  isplitl [HA HB HvL HvS HvR]
  · isplitl [HA]; · iexact HA
    isplitl [HB]; · iapply (show Bar (F := F) c true ⊢ semVal (barCell c) 0 from .rfl); iexact HB
    isplitl [HvL]; · iexact HvL
    isplitl [HvS]; · iexact HvS
    iexact HvR
  isplitl [HW HC]
  · isplitl [HW]; · iexists _; iexact HW
    iexists _; iexact HC
  isplitl [HO]
  · iapply (show Owe (F := F) c 16 15 ⊢ iprop(∃ W, owes (c : Thread nD τ) 0 W) from by unfold Owe; rw [owed_done])
    iexact HO
  isplitl [HX]; · iexact HX
  iexact Hout

end Pieces

end Cert.Scatter

end
-- ==== Proof.Launch.lean ====
/-
# The launch

What the launch mints and how it is dealt: every device gets its positions at its own cells and the tokens of the duties
it pays, at its own cells or at others'. The certificate of the run follows: it terminates, the weights are what they
were, every counter is back at zero, and the arrays are what the body says.
-/
module

public import proofs.«01_k».proof.Proof.Body
public import Idealize.ShloMosaic.Lib.Pipeline.CollectiveSegs

@[expose] public section

set_option maxRecDepth 100000

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The body's obligation -/

/-- A device's sends and signals, all owed at the start. -/
abbrev O₀ (c : Dev nD) : CellTallies nD τ sig Unit := owed c 0 0

def Φ₀ (c : Dev nD) : sProp 𝕄 := iprop(start m c ∗ scr (F := F) c)
def Φ₁ (c : Dev nD) : sProp 𝕄 := iprop(finish m c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (c : Thread nD τ) (Memref.whole b) fullShare X : sProp 𝕄) = stg c b X := by
  unfold owns stg; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xOf m c) ∗ stg c cc0_stg1_0 (outAt m c))

theorem post_intro (K : Dev nD × CI → ℕ) (c : Dev nD) : St m K c ctr1 ⊢ |={Set.univ}=> bodyPost m ρ c := by
  iintro H
  imod (St_elim m c K) $$ H with ⟨HF, HS, ⟨%W, HO⟩, HX, Hout⟩
  imodintro
  unfold bodyPost Φ₁ stg Dat.owesAt Pipeline.owesWithin Xs
  isplitl [HF HS]
  · isplitl [HF]; · iexact HF
    iexact HS
  isplitl [HO]
  · iexists W
    isplitr; · ipureintro; exact fun _ _ => Or.inl trivial
    rw [show (dats m ρ 0 c).owed t0_0.succ = 0 from rfl]
    iexact HO
  isplitl [HX]
  · iexists _; isplitr; · (ipureintro; rfl)
    iexact HX
  iexists _; isplitr; · (ipureintro; rfl)
  iexact Hout

theorem pre_elim (c : Dev nD) : bodyPre m ρ c ⊢ iprop(∃ K, St m K c ctr0) := by
  unfold bodyPre Φ₀ start stg Dat.owesAt Pipeline.owesWithin
  iintro ⟨⟨⟨⟨%K, HG⟩, HC, HA⟩, HS⟩, ⟨%W, %hW, HO⟩, ⟨%d0, %g0, %hg0, Hx⟩, ⟨%d1, %g1, %hg1, Hout⟩⟩
  have hx : g0 = xOf m c := by rw [hg0]; unfold Dat.before; rw [if_pos (fetch0_0 t0_0)]; rfl
  subst hx
  rw [show (dats m ρ 0 c).owed t0_0.castSucc = owed c 0 0 from rfl]
  iexists K
  iapply (St_intro m c K W g1)
  isplitl [HG]; · iexact HG
  isplitl [HC]; · iexact HC
  isplitl [HA]; · iexact HA
  isplitl [HS]; · iexact HS
  isplitl [HO]; · iexact HO
  isplitl [Hx]; · unfold Xs; iexact Hx
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ WP c (onArgs (cc0_body (F := F))) (fun _ => bodyPost m ρ c)
  refine (pre_elim m ρ c).trans ?_
  iintro ⟨%K, H⟩
  iapply (body_run m K c (post_intro m ρ K c))
  iexact H

/-! ## What is minted, and how it is dealt -/

abbrev osem (x : Fin 3 × Fin 16) : SemLoc sig := .dma (dsem x.1 x.2)

theorem ownSemFacts : Pipeline.OwnSemFacts cfg0.spec osem where
  isScoped := by decide
  inj := fun x y h => by
    have h' : dsem x.1 x.2 = dsem y.1 y.2 := SemLoc.dma.inj h
    exact dsem_inj h'
  disj := by decide

theorem share_eq (c : Dev nD) (w : Fin cfg0.W) : (dats m ρ 0 c).share w = fullShare := by unfold Dat.share; split <;> rfl

theorem csem_injective : Function.Injective csem := by
  intro x y h
  match x, y with
  | none, none => rfl
  | none, some y => exact absurd h (fun h => by cases h)
  | some x, none => exact absurd h (fun h => by cases h)
  | some x, some y => exact congrArg some (dsem_inj (SemLoc.dma.inj h))

theorem kcell_injective : Function.Injective kcell := by
  rintro ⟨c, k⟩ ⟨c', k'⟩ h
  have h1 : c = c' := congrArg (fun g : GSem nD τ sig => g.1.1) h
  have h2 : k = k' := csem_injective (congrArg Prod.snd h)
  exact Prod.ext h1 h2

def allCells : Finset (GSem nD τ sig) := Finset.univ.map ⟨kcell, kcell_injective⟩

/-- Every cell's tokens, one per device. -/
def tokOf (x : (Dev nD × CI) × Dev nD) : GSem nD τ sig × ℕ × Dev nD := (kcell x.1, 0, x.2)
theorem tokOf_injective : Function.Injective tokOf := by
  intro x y h
  exact Prod.ext (kcell_injective (congrArg Prod.fst h)) (congrArg (fun t : GSem nD τ sig × ℕ × Dev nD => t.2.2) h)
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of a device's own cells. -/
def mint (c : Dev nD) : sProp 𝕄 := bigSep Finset.univ fun k : CI => bigSep Finset.univ fun p : Dev nD => dutyTok ER (kcell (c, k)) 0 p
def rch (c : Dev nD) : sProp 𝕄 := bigSep Finset.univ fun k : CI => reached ER (kcell (c, k)) 0

def G (c : Dev nD) : sProp 𝕄 :=
  iprop((bigSep Finset.univ fun k : CI => roundState ER (Rd m) (kcell (c, k)) 0) ∗ rch (F := F) c ∗ posn (F := F) c ∗ mint (F := F) c)

/-- The invariants of all cells, and that each is open. -/
def recs (K : Dev nD × CI → ℕ) : sProp 𝕄 :=
  iprop((bigSep Finset.univ fun x : Dev nD × CI => cellInv ER (Rd m) (K x) (kcell x)) ∗ (bigSep Finset.univ fun x : Dev nD × CI => reached ER (kcell x) 0))
instance recs_persistent (K : Dev nD × CI → ℕ) : BI.Persistent (recs m K) := by unfold recs; infer_instance

def G' (c : Dev nD) : sProp 𝕄 := iprop(∃ K, recs m K ∗ posn (F := F) c ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint (F := F) c := by
    unfold allToks; rw [bigSep_map, bigSep_univ_prod, bigSep_univ_prod]; rfl
  iintro HX
  imod (Rounds.fund ER (Rd m) allCells allToks) $$ HX with ⟨Hst, Hr, Hat, Htok⟩
  imodintro
  unfold G rch posn
  rw [bigSep_sep', bigSep_sep', bigSep_sep']
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero: its own and the barrier's. -/
theorem zeros_eq (c : Dev nD) :
    (zeros (F := F) c) = iprop(unscopedSems0 c ∗ Pipeline.ownSems0 (Ix := Unit) (Name := ℕ) (U := UU) (Lvl := ℕ) (Val := Elt F) (τ := τ) osem c) := by
  unfold zeros Pipeline.ownSems0
  rw [ci_all, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ rch (F := F) c ∗ posn (F := F) c ∗ mint (F := F) c) := by
  have h : iprop(zeros (F := F) c ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) := by
    unfold zeros; rw [← bigSep_sep']
    exact (bigSep_mono fun k _ => (Rounds.body_intro ER (Rd m) (kcell (c, k))).trans inv_alloc).trans (bigSep_fupd _ _)
  rw [zeros_eq] at h
  unfold G
  iintro ⟨Ho, Hu, Hst, Hr, Hp, Ht⟩
  imod h $$ [Ho Hu Hst] with HI
  · isplitl [Ho Hu]
    · isplitl [Hu]; · iexact Hu
      iexact Ho
    iexact Hst
  imodintro
  isplitl [HI]; · iexact HI
  isplitl [Hr]; · iexact Hr
  isplitl [Hp]; · iexact Hp
  iexact Ht

/-- For each hop, the devices permuted by it. -/
def hopE (l : Fin 16) : Dev nD ≃ Dev nD := ⟨fun c => tg c l, fun d => sr d l, fun c => sr_tg c l, fun d => tg_sr d l⟩

/-- The tokens dealt to those who pay with them. -/
theorem deal : (bigSep Finset.univ fun c : Dev nD => mint (F := F) c) ⊢ bigSep Finset.univ fun c : Dev nD => toks (F := F) c := by
  have h0 (k : Fin 3) : (bigSep Finset.univ fun c : Dev nD => bigSep Finset.univ fun l : Fin 16 => bigSep Finset.univ fun p : Dev nD => dutyTok ER (dCell c k l) 0 p)
      ⊢ (bigSep Finset.univ fun c : Dev nD => bigSep Finset.univ fun l : Fin 16 => dutyTok ER (dCell c k l) 0 0 : sProp 𝕄) :=
    bigSep_mono fun c _ => bigSep_mono fun l _ => bigSep_elim (Finset.mem_univ 0)
  have hR : (bigSep Finset.univ fun c : Dev nD => bigSep Finset.univ fun l : Fin 16 => dutyTok ER (recvCell c l) 0 (0 : Dev nD) : sProp 𝕄)
      = bigSep Finset.univ fun c : Dev nD => bigSep Finset.univ fun l : Fin 16 => dutyTok ER (recvCell (tg c l) l) 0 (0 : Dev nD) := by
    rw [bigSep_univ_comm, bigSep_congr (s := Finset.univ) fun (l : Fin 16) _ => bigSep_univ_equiv (hopE l) fun c : Dev nD => (dutyTok ER (recvCell c l) 0 (0 : Dev nD) : sProp 𝕄),
      bigSep_univ_comm]
    rfl
  have hm : (bigSep Finset.univ fun c : Dev nD => mint (F := F) c) = bigSep Finset.univ fun c : Dev nD =>
      iprop((bigSep Finset.univ fun p : Dev nD => dutyTok ER (barCell c) 0 p)
        ∗ (bigSep Finset.univ fun l : Fin 16 => bigSep Finset.univ fun p : Dev nD => dutyTok ER (dCell c 0 l) 0 p)
        ∗ (bigSep Finset.univ fun l : Fin 16 => bigSep Finset.univ fun p : Dev nD => dutyTok ER (dCell c 1 l) 0 p)
        ∗ (bigSep Finset.univ fun l : Fin 16 => bigSep Finset.univ fun p : Dev nD => dutyTok ER (dCell c 2 l) 0 p)) :=
    bigSep_congr fun c _ => by unfold mint; rw [ci_eq]; rfl
  rw [hm]
  unfold toks
  rw [bigSep_sep', bigSep_sep', bigSep_sep', bigSep_sep', bigSep_sep', bigSep_sep', ← hR]
  iintro ⟨HB, HL, HS, HR⟩
  isplitl [HB]
  · iapply (Entails.of_eq (bigSep_univ_comm fun c p : Dev nD => (dutyTok ER (barCell c) 0 p : sProp 𝕄))); iexact HB
  isplitl [HL]; · iapply (h0 0); iexact HL
  isplitl [HS]; · iapply (h0 1); iexact HS
  iapply (h0 2); iexact HR

theorem regroup :
    (bigSep Finset.univ fun c : Dev nD => iprop((bigSep Finset.univ fun k => iprop(∃ κ : ℕ, cellInv ER (Rd m) κ (kcell (c, k))))
        ∗ rch (F := F) c ∗ posn (F := F) c ∗ mint (F := F) c) : sProp 𝕄) ⊢ bigSep Finset.univ (G' m) := by
  have hr : (bigSep Finset.univ fun c : Dev nD => rch (F := F) c) = bigSep Finset.univ fun x : Dev nD × CI => (reached ER (kcell x) 0 : sProp 𝕄) := by
    unfold rch; exact (bigSep_univ_prod (fun x : Dev nD × CI => (reached ER (kcell x) 0 : sProp 𝕄))).symm
  rw [bigSep_sep', bigSep_sep', ← bigSep_univ_prod (fun x : Dev nD × CI => iprop(∃ κ : ℕ, cellInv ER (Rd m) κ (kcell x))), hr]
  have hd : (bigSep Finset.univ fun c : Dev nD => iprop(posn (F := F) c ∗ mint (F := F) c))
      ⊢ bigSep Finset.univ fun c : Dev nD => iprop(posn (F := F) c ∗ toks (F := F) c) := by
    rw [bigSep_sep', bigSep_sep']
    iintro ⟨H1, H2⟩
    isplitl [H1]; · iexact H1
    iapply (deal (F := F)); iexact H2
  iintro ⟨HI, #HR, Hpt⟩
  icases (BI.bigSep_exists_pi Finset.univ (fun (x : Dev nD × CI) (κ : ℕ) => (cellInv ER (Rd m) κ (kcell x) : sProp 𝕄))) $$ HI with ⟨%K, #HK⟩
  ihave Hd := hd $$ Hpt
  have hg : iprop(recs m K ∗ bigSep Finset.univ fun c : Dev nD => iprop(posn (F := F) c ∗ toks (F := F) c)) ⊢ bigSep Finset.univ (G' m) :=
    bigSep_with_persistent fun c _ => by
      unfold G'
      iintro ⟨H1, H2⟩
      iexists K
      isplitl [H1]; · iexact H1
      iexact H2
  iapply hg
  isplitr
  · unfold recs
    isplitr; · iexact HK
    iexact HR
  iexact Hd

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits -/

/-- Every other device owes a device's barrier one unit; -/
theorem owed_bar (d c : Dev nD) : O₀ d (barCell c) () = if d ≠ c then 1 else 0 := by
  unfold O₀ owed
  rw [Pi.add_apply, Finsupp.add_apply, Finset.sum_apply, Finset.sum_apply, Finsupp.finset_sum_apply, Finsupp.finset_sum_apply,
    Finset.sum_eq_zero (s := sendTodo 0) fun l _ => by
      rw [tallyAt_apply, if_neg]
      rintro ⟨h, -⟩
      exact absurd (congrArg Prod.snd h) fun h => (by cases h), Nat.add_zero]
  have hc (p : Dev nD) : (tallyAt (barCell p) () 1 : CellTallies nD τ sig Unit) (barCell c) () = if c = p then 1 else 0 := by
    rw [tallyAt_apply]
    by_cases h : c = p
    · subst h; rw [if_pos ⟨rfl, rfl⟩, if_pos rfl]
    · rw [if_neg h, if_neg fun h' => h (congrArg (fun g : GSem nD τ sig => g.1.1) h'.1)]
  rw [Finset.sum_congr rfl fun p _ => hc p, Finset.sum_ite_eq]
  refine if_congr ?_ rfl rfl
  simp only [sigTodo, Finset.mem_filter]
  exact ⟨fun h => h.2.2.symm, fun h => ⟨Finset.mem_univ _, Nat.zero_le _, Ne.symm h⟩⟩

/-- and the source of a reception its length. -/
theorem owed_recv (d c : Dev nD) (l : Fin 16) (h : l ≠ 15) : O₀ d (recvCell c l) () = if d = sr c l then NS else 0 := by
  have hl : l ∈ sendTodo 0 := by
    have : l.val ≠ 15 := fun h' => h (Fin.ext h')
    exact Finset.mem_filter.mpr ⟨Finset.mem_univ _, Nat.zero_le _, by omega⟩
  unfold O₀ owed
  rw [Pi.add_apply, Finsupp.add_apply, Finset.sum_apply, Finset.sum_apply, Finsupp.finset_sum_apply, Finsupp.finset_sum_apply,
    Finset.sum_eq_zero (s := sigTodo d 0) fun p _ => by
      rw [tallyAt_apply, if_neg]
      rintro ⟨h, -⟩
      exact absurd (congrArg Prod.snd h) fun h => (by cases h), Nat.zero_add]
  rw [Finset.sum_eq_single_of_mem l hl fun l' _ hn => by
    rw [tallyAt_apply, if_neg]
    rintro ⟨h, -⟩
    exact hn (congrArg Prod.snd (dsem_inj (SemLoc.dma.inj (congrArg Prod.snd h)))).symm]
  rw [tallyAt_apply]
  refine if_congr ⟨fun h' => ?_, fun h' => ?_⟩ rfl rfl
  · have hc : c = tg d l := congrArg (fun g : GSem nD τ sig => g.1.1) h'.1
    rw [hc, sr_tg]
  · subst h'; rw [tg_sr]; exact ⟨rfl, rfl⟩

theorem count_others (c : Dev nD) : (∑ d : Dev nD, if d ≠ c then 1 else 0) = 15 := by revert c; decide

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_others]

theorem launch_recv (c : Dev nD) (l : Fin 16) (h : l ≠ 15) :
    tallyOn (recvCell c l) (launchCredit (Pipeline.owing O₀) 0 (recvCell c l)) = (tallyAt (recvCell c l) () NS : CellTallies nD τ sig Unit) := by
  unfold tallyAt; refine congrArg _ (Finsupp.ext fun u => ?_); cases u
  rw [Pipeline.launchCredit_owing, Finsupp.single_eq_same, Finset.sum_congr rfl fun d _ => owed_recv d c l h,
    Finset.sum_ite_eq' Finset.univ (sr c l) fun _ => NS, if_pos (Finset.mem_univ _)]

/-- The semaphores of the receptions. -/
def recvE : Fin 16 ↪ SemLoc sig := ⟨fun l => .dma (dsem 2 l), fun l l' h => congrArg Prod.snd (dsem_inj (SemLoc.dma.inj h))⟩

theorem creds (c : Dev nD) : (Pipeline.launchCred O₀ c : sProp 𝕄) ⊢ crd (F := F) c := by
  unfold Pipeline.launchCred crd
  rw [bigSep_univ_at _ (SemLoc.reg barS), launch_bar]
  refine sep_mono_right ?_
  have hs : (Finset.univ.filter fun l : Fin 16 => ¬ l = 15).map recvE ⊆ Finset.univ.erase (SemLoc.reg barS) := fun sm h => by
    obtain ⟨l, -, rfl⟩ := Finset.mem_map.mp h
    exact Finset.mem_erase.mpr ⟨fun h' => (by cases h'), Finset.mem_univ _⟩
  refine (bigSep_subset hs).trans ?_
  rw [bigSep_map, bigSep_filter]
  refine Entails.of_eq (bigSep_congr fun l _ => ?_)
  by_cases h : l = 15
  · rw [if_neg (not_not.mpr h), if_pos h]; rfl
  · rw [if_pos h, if_neg h]
    exact congrArg cred (launch_recv c l h)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c) ⊢ |={Set.univ}=> iprop(start m c ∗ emp) := by
  rw [Pipeline.unscopedRestP_none, unscopedRest0_eq]
  unfold start G' Rec recs
  iintro ⟨HA, HL, HC, -, ⟨%K, ⟨HI, HR⟩, Hp, Ht⟩⟩
  imodintro
  isplitl
  · isplitl [HI HR HL Hp Ht]
    · iexists K
      isplitl [HI HR HL]
      · isplitl [HI]; · iexact HI
        isplitl [HR]; · iexact HR
        iexact HL
      isplitl [Hp]; · iexact Hp
      iexact Ht
    isplitl [HC]; · iapply (creds (F := F) c); iexact HC
    unfold argW; iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- What a device holds once its kernel is done. -/
def atEnd (c : Dev nD) : sProp 𝕄 := iprop(argW m c ∗ unscopedSems0 c)

theorem phi1_exit (c : Dev nD) :
    (dats m ρ 0 c).Φ (Fin.last cfg0.N) ⊢ iprop(atEnd m c ∗ Pipeline.ownSems0 osem c ∗ Pipeline.scopedRest cfg0.spec c) := by
  rw [show (dats m ρ 0 c).Φ (Fin.last cfg0.N) = Φ₁ m c from rfl, scopedRest0_eq]
  unfold Φ₁ scr finish atEnd
  rw [zeros_eq]
  iintro ⟨⟨HA, HU, HO⟩, HS⟩
  isplitl [HA HU]
  · isplitl [HA]; · iexact HA
    iexact HU
  isplitl [HO]; · iexact HO
  iexact HS

theorem stage_low : ∀ (w : Fin cfg0.W) (s : Fin (cfg0.win w).nbuf), lvl (.dma ((cfg0.win w).sem s)) = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 (Or.inl (stage_low w s))
    · have h := mayWait_done (F := F) c (.dma ((cfg0.win w).sem s))
      rw [owed_done] at h
      exact h

/-! ## The run -/

def finalA (c : Dev nD) (w : Fin cfg0.W) : Buf (Elt F) ((cfg0.win w).arr.view.loc (c : Thread nD τ)) := (dats m ρ 0 c).arrAt w cfg0.N

def Ends (s : MemSt nD τ sig (Elt F)) : Prop := ∀ c : Dev nD,
  (∀ w : Fin cfg0.W, s.mem ((cfg0.win w).arr.view.loc (c : Thread nD τ)) = finalA m ρ c w)
    ∧ s.mem ((c : Thread nD τ).loc main_arg1) = m ((c : Thread nD τ).loc main_arg1)

/-- What is read of a final state besides its arrays. -/
def Rest (c : Dev nD) (s : MemSt nD τ sig (Elt F)) : Prop :=
  (∀ sm : SemLoc sig, sm.isScoped .tc = false → s.sem ((c.tc : Thread nD τ), sm) = 0) ∧ s.mem ((c : Thread nD τ).loc main_arg1) = m ((c : Thread nD τ).loc main_arg1)

theorem rest_read (c : Dev nD) (s' : Phys nD τ sig (Elt F)) :
    iprop(atEnd m c ∗ emp ∗ SI s') ⊢ |={Set.univ}=> iprop(⌜Rest m c s'.mem⌝ ∗ SI s' : sProp 𝕄) := by
  have hA := pointsTo_read_all (Ix := Unit) (Name := ℕ) (U := UU) (Lvl := ℕ) {()} (fun _ : Unit => (c : Thread nD τ).loc main_arg1) (fun _ => aOf m c) s'
  rw [bigSep_singleton] at hA
  unfold atEnd
  iintro ⟨⟨HA, HU⟩, -, HSI⟩
  imod (Pipeline.unscopedSems0_read (X := unscopedSems0 c) (c := c) fupd_intro s') $$ [HU HSI] with ⟨%hU, HSI⟩
  · isplitl [HU]; · iexact HU
    iexact HSI
  icases hA $$ [HA HSI] with ⟨%hM, HSI⟩
  · isplitl [HA]; · unfold argW; iexact HA
    iexact HSI
  imodintro
  isplitr
  · ipureintro; exact ⟨hU, hM () (Finset.mem_singleton_self _)⟩
  iexact HSI

/-- On sixteen devices, for any float values, from any memory with counters at zero: the run ends, with the arrays as
    the body leaves them, the weights unchanged and every counter at zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod (fund_all m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m ρ) (hout := phi1_exit m ρ)
    (QY := Rest m) (hY := rest_read m)
    (hQ := fun _ h hs => ⟨fun c => ⟨(h c).1, (h c).2.2.2⟩, sem_eq_zero hs fun c => (h c).2.2.1⟩)

/-- The `x` array is what it was. -/
theorem finalA_x (c : Dev nD) : finalA m ρ c (0 : Fin 2) = m (win0_0.arr.view.loc (c : Thread nD τ)) :=
  (dats (F := F) m ρ 0 c).arrAt_in (0 : Fin 2) rfl _

end Cert.Scatter

end
-- ==== Proof.Values.lean ====
/-
# The values

At exact arithmetic, device `c`'s output is column block `c` of the reference's result: entry `(r, y)` is
`s / (1 + exp (-s))` of `s`, the product of row `r` of `x` with column `128 * c + y` of the weights.
-/
module

public import proofs.«01_k».proof.Proof.Launch
public import proofs.«01_k».proof.Proof.Gen.ReferenceIdeal.Run
public import Idealize.ShloMosaic.Lib.Pipeline.ValueKit
public import Idealize.ShloMosaic.Lib.Pointwise
public import Idealize.ShloMosaic.Lib.Layout

@[expose] public section

set_option maxRecDepth 100000

noncomputable section

namespace Cert.Scatter

open Cert.KernelIdeal Cert.KernelIdeal.Gen
open Idealize.ShloMosaic Idealize.ShloMosaic.TcCoe

/-! ## The arithmetic -/

/-- `y * logistic y` is `y / (1 + exp (-y))`, at the infinities too. -/
theorem mul_logistic (y : EReal) : y * Ideal.logistic y = Ideal.div y (1 + Ideal.exp (-y)) := by
  have h : 1 + Ideal.exp (-y) ≠ 0 := by
    have h0 : 0 ≤ Ideal.exp (-y) := by
      induction (-y) using EReal.rec with
      | bot => exact le_refl _
      | coe r => exact EReal.coe_nonneg.mpr (Real.exp_pos r).le
      | top => exact le_top
    exact (lt_of_lt_of_le zero_lt_one (le_add_of_nonneg_right h0)).ne'
  unfold Ideal.logistic Ideal.div
  rw [if_neg h, if_neg h, one_mul]

/-- One entry of a computed group: the row of the staged block times the column of the group, times the
    logistic function of that. -/
theorem pay_apply (X : Vec Ideal S128x2048 .f32) (W : Vec Ideal S1x2048x512 .f32) (x : Fin 128) (y : Fin 512) :
    k0_pay2 (F := Ideal) (k0_pay1 X) W (ix3 (0 : Fin 1) x y)
      = (∑ k : Fin 2048, X (ix2 x k) * W (ix3 (0 : Fin 1) k y))
        * Ideal.logistic (∑ k : Fin 2048, X (ix2 x k) * W (ix3 (0 : Fin 1) k y)) := by
  pointwise [k0_pay2, k0_pay1]

/-- The reference's result as an array of the two arguments. -/
def refOf (A B : (⟨⟨2, ![2048, 2048]⟩, .f32⟩ : BufTy).Contents (Elt Ideal)) : (⟨⟨2, ![2048, 2048]⟩, .bf16⟩ : BufTy).Contents (Elt Ideal) :=
  truncf .bf16 (Host.divf (Host.dotGeneral (F := Ideal) (φ₁ := .f32) (φ₂ := .f32) Cert.ReferenceIdeal.dot_S2048x2048_S2048x2048_S2048x2048_1_0_0_1_n_n none A B)
    (addf (broadcastInDim Cert.ReferenceIdeal.S2048x2048 ![] Cert.ReferenceIdeal.Gen.bcast_S_S2048x2048 (constant Cert.ReferenceIdeal.S_ .f32 0x3F800000#32))
      (Host.exp (Host.negf (Host.dotGeneral (F := Ideal) (φ₁ := .f32) (φ₂ := .f32) Cert.ReferenceIdeal.dot_S2048x2048_S2048x2048_S2048x2048_1_0_0_1_n_n none A B))))) Cert.ReferenceIdeal.Gen.bitsLt_bf16_f32

/-- One entry of the reference's result. -/
theorem refOf_apply (A B) (r c : Fin 2048) :
    refOf A B (ix2 r c) = Ideal.div (∑ k : Fin 2048, A (ix2 r k) * B (ix2 k c))
      (1 + Ideal.exp (-(∑ k : Fin 2048, A (ix2 r k) * B (ix2 k c)))) := by
  pointwise [refOf]

/-! ## The output array -/

section Out
variable {F : FTy → Type} [FloatOps F]
variable (m : (ℓ : Loc nD τ sig) → Buf (Elt F) ℓ) (ρ : Dev nD → PrngReg)

/-- The result array ends as what the body leaves in the output buffer. -/
theorem finalA_out (c : Dev nD) : finalA m ρ c (1 : Fin 2) = outAt m c := by
  refine (dats m ρ 0 c).arrAt_eq_of_after_last (1 : Fin 2) t0_0 (by decide +kernel) _ fun j => ?_
  blk_simp
  rfl

/-- The staged block is the whole of the device's block of `x`. -/
theorem xOf_eq (c : Dev nD) : xOf m c = m ((c : Thread nD τ).loc main_arg0) := by
  funext j
  unfold xOf
  refine congrArg (m ((c : Thread nD τ).loc main_arg0)) (funext fun a => ?_)
  match a with
  | ⟨0, _⟩ => exact Fin.ext (show 0 + 1 * (j 0).val = (j 0).val by omega)
  | ⟨1, _⟩ => exact Fin.ext (show 0 + 1 * (j 1).val = (j 1).val by omega)
end Out

/-! ## The output is the reference's column block -/

/-- Entry `(128 * s + x, y)` of device `d`'s output: row `x` of device `s`'s block of `x` times column `128 * d + y` of
    device `s`'s copy of the weights, as `s / (1 + exp (-s))` of that product. -/
theorem outAt_apply (m : (ℓ : Loc nD τ sig) → Buf (Elt Ideal) ℓ) (s d : Dev nD) (x y : Fin 128)
    (hr : 128 * s.val + x.val < 2048) (hc : 128 * d.val + y.val < 2048)
    (u v : Fin 2048 → EReal) (hu : ∀ k : Fin 2048, xOf m s (ix2 x k) = u k)
    (hv : ∀ k : Fin 2048, aOf m s (ix2 k (⟨128 * d.val + y.val, hc⟩ : Fin 2048)) = v k) :
    outAt m d (ValueIdx.ix2 (⟨128 * s.val + x.val, hr⟩ : Fin 2048) y)
      = Ideal.div (∑ k : Fin 2048, u k * v k) (1 + Ideal.exp (-(∑ k : Fin 2048, u k * v k))) := by
  have hl := (hop s d).isLt
  have hrow := outAt_row m s (hop s d) x y
  rw [tg_hop] at hrow
  refine hrow.trans ?_
  have hW : ∀ k : Fin 2048, wGrp m s (⟨(hop s d).val / 4, by omega⟩ : Fin 4) (ix3 (0 : Fin 1) k (⟨128 * ((hop s d).val % 4) + y.val, by omega⟩ : Fin 512))
      = aOf m s (ix2 k (⟨128 * d.val + y.val, hc⟩ : Fin 2048)) := fun k => by
    show aOf m s _ = _
    refine congrArg (aOf m s) ?_
    refine Eq.trans ?_ (ix2_eq_valueIdx _ _).symm
    refine congrArg (ValueIdx.ix2 k) (Fin.ext ?_)
    show 128 * (tg s (kW (ValueIdx.ix3 (⟨(hop s d).val / 4, by omega⟩ : Fin 4) k (⟨128 * ((hop s d).val % 4) + y.val, by omega⟩ : Fin 512)))).val
      + (128 * ((hop s d).val % 4) + y.val) % 128 = 128 * d.val + y.val
    rw [kW_slot, tg_hop]
    omega
  rw [← mul_logistic]
  unfold cFin
  show k0_pay2 (F := Ideal) (k0_pay1 (xOf m s)) (wGrp m s _) (ValueIdx.ix3 _ _ _) = _
  rw [← ix3_eq_valueIdx]
  refine (pay_apply _ _ _ _).trans ?_
  have hsum := Finset.sum_congr (rfl : (Finset.univ : Finset (Fin 2048)) = Finset.univ)
    fun k _ => congrArg₂ (fun p q : EReal => p * q) (hu k) ((hW k).trans (hv k))
  exact congrArg (fun z : EReal => z * Ideal.logistic z) hsum

/-- When every device holds its rows of `A` and all of `B`, device `d`'s output is its columns of the reference's result. -/
theorem outAt_eq_block (m : (ℓ : Loc nD τ sig) → Buf (Elt Ideal) ℓ)
    (A B : (⟨⟨2, ![2048, 2048]⟩, .f32⟩ : BufTy).Contents (Elt Ideal))
    (hA : ∀ c : Dev nD, m ((c : Thread nD τ).loc main_arg0) = Layout.block ⟨2, ![128, 2048]⟩ ⟨2, ![2048, 2048]⟩ 0 16 c A)
    (hB : ∀ c : Dev nD, m ((c : Thread nD τ).loc main_arg1) = B) (d : Dev nD) :
    outAt m d = Layout.block ⟨2, ![2048, 128]⟩ ⟨2, ![2048, 2048]⟩ 1 16 d (refOf A B) := by
  funext i
  have h0 : (i 0).val < 2048 := (i 0).isLt
  have h1 : (i 1).val < 128 := (i 1).isLt
  have hd : d.val < 16 := d.isLt
  let s : Dev nD := ⟨(i 0).val / 128, by show _ < 16; omega⟩
  let x : Fin 128 := ⟨(i 0).val % 128, Nat.mod_lt _ (by decide)⟩
  have hr : 128 * s.val + x.val < 2048 := by show 128 * ((i 0).val / 128) + (i 0).val % 128 < 2048; omega
  have hc : 128 * d.val + (i 1).val < 2048 := by omega
  have hi : i = ValueIdx.ix2 (⟨128 * s.val + x.val, hr⟩ : Fin 2048) (i 1 : Fin 128) := by
    refine (idx2_eta i).trans (congrArg (fun z : Fin 2048 => ValueIdx.ix2 z (i 1 : Fin 128)) (Fin.ext ?_))
    show (i 0).val = 128 * ((i 0).val / 128) + (i 0).val % 128
    omega
  have hidx : ∀ h : Layout.Tiles ⟨2, ![2048, 128]⟩ ⟨2, ![2048, 2048]⟩ 1 16,
      h.idx d i = ix2 (⟨128 * s.val + x.val, hr⟩ : Fin 2048) (⟨128 * d.val + (i 1).val, hc⟩ : Fin 2048) := fun h => by
    funext a
    match a with
    | ⟨0, _⟩ => exact Fin.ext (show (i 0).val = 128 * ((i 0).val / 128) + (i 0).val % 128 by omega)
    | ⟨1, _⟩ => exact Fin.ext (show d.val * 128 + (i 1).val = 128 * d.val + (i 1).val by omega)
  have hx : ∀ k : Fin 2048, xOf m s (ix2 x k) = A (ix2 (⟨128 * s.val + x.val, hr⟩ : Fin 2048) k) := fun k => by
    rw [xOf_eq, hA s]
    refine congrArg A (funext fun a => ?_)
    match a with
    | ⟨0, _⟩ => exact Fin.ext (show s.val * 128 + x.val = 128 * s.val + x.val by omega)
    | ⟨1, _⟩ => rfl
  rw [Layout.block_apply, hidx, refOf_apply]
  exact (congrArg (outAt m d) hi).trans (outAt_apply m s d x (i 1 : Fin 128) hr hc _ _ hx fun k => congrFun (hB s) _)

end Cert.Scatter
end
-- ==== Proof.Clip.lean ====
/-
# The clip

The second reference clips the exponent's argument to [-60, 60]. At an entry whose product lies there the clip changes
nothing, and the two references agree.
-/
module

public import proofs.«01_k».proof.Proof.Values
public import proofs.«01_k».proof.Proof.Gen.ClippedIdeal.Run
public import proofs.«01_k».proof.Proof.Gen.On_unclipped

@[expose] public section

set_option maxRecDepth 100000

noncomputable section

namespace Cert.Scatter

open Idealize.ShloMosaic Idealize.ShloMosaic.TcCoe

/-- The two bounds of the clip. -/
theorem bound_hi : Ideal.ofBits .f32 0x42700000#32 = ((60 : ℝ) : EReal) := by
  simp [Ideal.ofBits, Ideal.ieee, -EReal.coe_mul]; norm_num
theorem bound_lo : Ideal.ofBits .f32 0xC2700000#32 = ((-60 : ℝ) : EReal) := by
  simp [Ideal.ofBits, Ideal.ieee, -EReal.coe_mul, -EReal.coe_neg]; norm_num

/-- The clip leaves a number between the bounds as it is. -/
theorem clip_eq (y : EReal) (h : max y (-y) ≤ ((60 : ℝ) : EReal)) : min ((60 : ℝ) : EReal) (max ((-60 : ℝ) : EReal) y) = y := by
  have h1 : y ≤ ((60 : ℝ) : EReal) := (le_max_left _ _).trans h
  have h2 : ((-60 : ℝ) : EReal) ≤ y := by
    have := EReal.neg_le_neg_iff.mpr ((le_max_right y (-y)).trans h)
    rwa [neg_neg, ← EReal.coe_neg] at this
  rw [max_eq_right h2, min_eq_right h1]

/-- The clipping reference's result as an array of the two arguments. -/
def clippedOf (A B : (⟨⟨2, ![2048, 2048]⟩, .f32⟩ : BufTy).Contents (Elt Ideal)) : (⟨⟨2, ![2048, 2048]⟩, .bf16⟩ : BufTy).Contents (Elt Ideal) :=
  truncf .bf16 (Host.divf (Host.dotGeneral (F := Ideal) (φ₁ := .f32) (φ₂ := .f32) Cert.ClippedIdeal.dot_S2048x2048_S2048x2048_S2048x2048_1_0_0_1_n_n none A B)
    (addf (broadcastInDim Cert.ClippedIdeal.S2048x2048 ![] Cert.ClippedIdeal.Gen.bcast_S_S2048x2048 (constant Cert.ClippedIdeal.S_ .f32 0x3F800000#32))
      (Host.exp (Host.negf
        (minimumf (broadcastInDim Cert.ClippedIdeal.S2048x2048 ![] Cert.ClippedIdeal.Gen.bcast_S_S2048x2048 (id (constant Cert.ClippedIdeal.S_ .f32 0x42700000#32)))
          (maximumf (broadcastInDim Cert.ClippedIdeal.S2048x2048 ![] Cert.ClippedIdeal.Gen.bcast_S_S2048x2048 (id (constant Cert.ClippedIdeal.S_ .f32 0xC2700000#32)))
            (Host.dotGeneral (F := Ideal) (φ₁ := .f32) (φ₂ := .f32) Cert.ClippedIdeal.dot_S2048x2048_S2048x2048_S2048x2048_1_0_0_1_n_n none A B)))))))
    Cert.ClippedIdeal.Gen.bitsLt_bf16_f32

/-- One entry of the clipping reference's result. -/
theorem clippedOf_apply (A B) (r c : Fin 2048) :
    clippedOf A B (ix2 r c) = Ideal.div (∑ k : Fin 2048, A (ix2 r k) * B (ix2 k c))
      (1 + Ideal.exp (-(min ((60 : ℝ) : EReal) (max ((-60 : ℝ) : EReal) (∑ k : Fin 2048, A (ix2 r k) * B (ix2 k c)))))) := by
  pointwise [clippedOf]
  rw [← bound_hi, ← bound_lo]
  rfl

/-- What the mask says of an entry. -/
theorem mask_apply (A B : (⟨⟨2, ![2048, 2048]⟩, .f32⟩ : BufTy).Contents (Elt Ideal)) (r c : Fin 2048)
    (h : Cert.On_unclipped.fn (F := Ideal) A B (ix2 r c) = 1#1) :
    max (∑ k : Fin 2048, A (ix2 r k) * B (ix2 k c)) (-(∑ k : Fin 2048, A (ix2 r k) * B (ix2 k c))) ≤ ((60 : ℝ) : EReal) := by
  revert h
  pointwise [Cert.On_unclipped.fn]
  rw [bound_hi]
  intro h
  by_contra hn
  refine absurd (h.symm.trans (congrArg BitVec.ofBool (decide_eq_false hn))) (by decide)

/-- On the mask the two references agree. -/
theorem clippedOf_eq (A B : (⟨⟨2, ![2048, 2048]⟩, .f32⟩ : BufTy).Contents (Elt Ideal)) (i : (⟨2, ![2048, 2048]⟩ : Shape).Idx)
    (h : Cert.On_unclipped.fn (F := Ideal) A B i = 1#1) : clippedOf A B i = refOf A B i := by
  have hi : i = ix2 (i 0 : Fin 2048) (i 1 : Fin 2048) := (idx2_eta i).trans (ix2_eq_valueIdx _ _).symm
  have hm := mask_apply A B (i 0 : Fin 2048) (i 1 : Fin 2048) ((congrArg (Cert.On_unclipped.fn (F := Ideal) A B) hi).symm.trans h)
  refine (congrArg (clippedOf A B) hi).trans ((clippedOf_apply A B _ _).trans (Eq.trans ?_ ((congrArg (refOf A B) hi).trans (refOf_apply A B _ _)).symm))
  rw [clip_eq _ hm]

end Cert.Scatter
end
-- ==== Proof.lean ====
/-
# The certificate

The claims of `Cert.Claim`, from the run of the kernel at any float values (`Proof/Launch.lean`), the value of its output
(`Proof/Values.lean`) and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_unclipped
public import proofs.«01_k».proof.Proof.Launch
public import proofs.«01_k».proof.Proof.Values
public import proofs.«01_k».proof.Proof.Clip
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What the kernel's run says of its arguments and counters, for any float values. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono
    (fun _ h => ⟨fun c => ⟨((h.1 c).1 (0 : Fin 2)).trans (Cert.Scatter.finalA_x m g c), (h.1 c).2⟩, h.2⟩) (Cert.Scatter.run_main m g)

/-- The printed kernel and its idealization have the same text, so the same bodies. -/
theorem defs₀_eq {F : FTy → Type} [FloatOps F] : Cert.Kernel.defs₀ (F := F) = Cert.KernelIdeal.defs₀ (F := F) := by
  funext p l x
  match p, l, x with
  | .tc, ⟨0, _⟩, (t, s) => rfl
  | .scScalar _, l, x => rfl
  | .scVector _ _, l, x => rfl

theorem defs_eq {F : FTy → Type} [FloatOps F] : Cert.Kernel.defs (F := F) = Cert.KernelIdeal.defs (F := F) :=
  congrArg (Pipeline.defs Cert.KernelIdeal.pcfgs) defs₀_eq

theorem frame_kernel : Cert.quiescent_Kernel := fun m g _ => by
  rw [defs_eq]
  exact run_frame (F := Bits) m g

theorem frame_ideal : Cert.quiescent_KernelIdeal := fun m g _ => run_frame (F := Ideal) m g

/-- The reference has no counter, so its counters are all zero at any time. -/
theorem frame_reference : Cert.quiescent_ReferenceIdeal := fun m g _ =>
  (θ_run (Cert.ReferenceIdeal.defs (F := Ideal)) _ _).mono (fun r h => ⟨fun c => (h c).2, sem_eq_zero_of_no_sems rfl r.2⟩)
    (Cert.ReferenceIdeal.Value.run (F := Ideal) m g)

theorem frame_clipped : Cert.quiescent_ClippedIdeal := fun m g _ =>
  (θ_run (Cert.ClippedIdeal.defs (F := Ideal)) _ _).mono (fun r h => ⟨fun c => (h c).2, sem_eq_zero_of_no_sems rfl r.2⟩)
    (Cert.ClippedIdeal.Value.run (F := Ideal) m g)

/-- The kernel's run at exact arithmetic, when each device holds its rows of `A` and all of `B`: its output is its columns
    of the reference's result. -/
theorem run_value (m : (ℓ : Loc Cert.KernelIdeal.nD Cert.KernelIdeal.τ Cert.KernelIdeal.sig) → Buf (Elt Ideal) ℓ)
    (g : Dev Cert.KernelIdeal.nD → PrngReg) (A B : (⟨⟨2, ![2048, 2048]⟩, .f32⟩ : BufTy).Contents (Elt Ideal))
    (hA : ∀ c : Dev Cert.KernelIdeal.nD, m ((c.tc : Thread Cert.KernelIdeal.nD Cert.KernelIdeal.τ).loc Cert.KernelIdeal.main_arg0)
      = Layout.block ⟨2, ![128, 2048]⟩ ⟨2, ![2048, 2048]⟩ 0 16 c A)
    (hB : ∀ c : Dev Cert.KernelIdeal.nD, m ((c.tc : Thread Cert.KernelIdeal.nD Cert.KernelIdeal.τ).loc Cert.KernelIdeal.main_arg1) = B) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Layout.block ⟨2, ![2048, 128]⟩ ⟨2, ![2048, 2048]⟩ 1 16 c (Cert.Scatter.refOf A B)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono
    (fun _ h c => ⟨(((h.1 c).1 (1 : Fin 2)).trans (Cert.Scatter.finalA_out m g c)).trans (Cert.Scatter.outAt_eq_block m A B hA hB c),
      ((h.1 c).1 (0 : Fin 2)).trans (Cert.Scatter.finalA_x m g c), (h.1 c).2⟩) (Cert.Scatter.run_main m g)

theorem algebraic : Cert.algebraic_KernelIdeal_ReferenceIdeal := fun m g m' g' _ hargs =>
  ⟨_, run_value m g _ _ (fun c => (hargs c).1) (fun c => (hargs c).2),
    (θ_run (Cert.ReferenceIdeal.defs (F := Ideal)) _ _).mono (fun r h => h 0) (Cert.ReferenceIdeal.Value.run (F := Ideal) m' g')⟩

/-- Against the clipping reference the common value is the plain reference's, which it is on the mask. -/
theorem algebraic_clipped : Cert.algebraic_KernelIdeal_ClippedIdeal_on_unclipped := fun m g m' g' _ hargs =>
  ⟨_, (θ_run (Cert.KernelIdeal.defs (F := Ideal)) _ _).mono (fun _ h c => ⟨fun i _ => congrFun (h c).1 i, (h c).2⟩)
      (run_value m g _ _ (fun c => (hargs c).1) (fun c => (hargs c).2)),
    (θ_run (Cert.ClippedIdeal.defs (F := Ideal)) _ _).mono
      (fun r h => ⟨fun i hi => (congrFun (h 0).1 i).trans (Cert.Scatter.clippedOf_eq _ _ i hi), (h 0).2⟩)
      (Cert.ClippedIdeal.Value.run (F := Ideal) m' g')⟩

theorem claim : Cert.Claim := ⟨Cert.Kernel.Gen.facts, Cert.KernelIdeal.Gen.facts, Cert.ReferenceIdeal.Gen.facts,
  Cert.ClippedIdeal.Gen.facts, Cert.On_unclipped.Gen.facts,
  frame_kernel, frame_ideal, frame_reference, frame_clipped, trivial, algebraic, algebraic_clipped⟩

end Cert.Proof

end
